-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)
  bcast_S_S512 : S_.BroadcastsInDim S512 (![] : Fin 0 → Fin S512.rank)

variable [Facts]

def fn {F : FTy → Type} [FloatOps F] (main_arg0 : FVec F S512x1024 .bf16) (main_arg1 : FVec F S1024x8192 .bf16) (main_arg2 : IVec S512 32) : IVec S512x1024 1 × IVec S1024x8192 1 × IVec S512 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 16384#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Pre_in_range_ReferenceIdeal.lean ====
abbrev S512x1024 : Shape := ⟨2, ![512, 1024]⟩
abbrev S1024x16384 : Shape := ⟨2, ![1024, 16384]⟩
abbrev S512 : Shape := ⟨1, ![512]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)
  bcast_S_S512 : S_.BroadcastsInDim S512 (![] : Fin 0 → Fin S512.rank)

variable [Facts]

def fn {F : FTy → Type} [FloatOps F] (main_arg0 : FVec F S512x1024 .bf16) (main_arg1 : FVec F S1024x16384 .bf16) (main_arg2 : IVec S512 32) : IVec S512x1024 1 × IVec S1024x16384 1 × IVec S512 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x16384 .bf16 := Host.absf main_arg1
  let main_cst_0 : FVec F S_ .bf16 := constant S_ .bf16 0x7F80#16
  let main_v4 : FVec F S1024x16384 .bf16 := broadcastInDim S1024x16384 ![] bcast_S_S1024x16384 main_cst_0
  let main_v5 : IVec S1024x16384 1 := cmpf .olt main_v3 main_v4
  let main_c : IVec S_ 32 := constantI S_ 32 0#32
  let main_v6 : IVec S512 32 := broadcastInDim S512 ![] bcast_S_S512 main_c
  let main_v7 : IVec S512 1 := cmpi .sge main_arg2 main_v6
  let main_c_1 : IVec S_ 32 := constantI S_ 32 16384#32
  let main_v8 : IVec S512 32 := broadcastInDim S512 ![] bcast_S_S512 main_c_1
  let main_v9 : IVec S512 1 := cmpi .slt main_arg2 main_v8
  let main_v10 : IVec S512 1 := andi main_v7 main_v9
  (main_v2, main_v5, main_v10)
-- ==== Kernel.lean ====
abbrev S512x1024 : Shape := ⟨2, ![512, 1024]⟩
abbrev S1024x8192 : Shape := ⟨2, ![1024, 8192]⟩
abbrev S512 : Shape := ⟨1, ![512]⟩
abbrev S1024x2048 : Shape := ⟨2, ![1024, 2048]⟩
abbrev S512x2 : Shape := ⟨2, ![512, 2]⟩
abbrev S_ : Shape := ⟨0, ![]⟩
abbrev S512x2048 : Shape := ⟨2, ![512, 2048]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .bf16⟩
  | .hbm, ⟨1, _⟩ => ⟨S1024x8192, .bf16⟩
  | .hbm, ⟨2, _⟩ => ⟨S512, .i32⟩
  | .hbm, ⟨3, _⟩ => ⟨S512, .f32⟩
  | .local _ .vmem, ⟨0, _⟩ => ⟨S512x1024, .bf16⟩
  | .local _ .vmem, ⟨1, _⟩ => ⟨S1024x2048, .bf16⟩
  | .local _ .vmem, ⟨2, _⟩ => ⟨S1024x2048, .bf16⟩
  | .local _ .vmem, ⟨3, _⟩ => ⟨S512, .i32⟩
  | .local _ .vmem, ⟨4, _⟩ => ⟨S512, .f32⟩
  | .local _ .vmem, ⟨5, _⟩ => ⟨S512x2, .f32⟩
  | .local _ .vmem, ⟨6, _⟩ => ⟨S512x2, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 8
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_16 : BitVec 32 := 0#32
  let v42 : BitVec 1 := Scalar.cmpi .ne v41 c0_i32_16
  v42

def k0_dev1 (d3 : Dev nD) : Nat :=
  let c0_i32_22 : BitVec 32 := 0#32
  let v43 : BitVec 32 := Dev.word d3
  let c4_i32 : BitVec 32 := 4#32
  let v44 : BitVec 32 := Scalar.divsi v43 c4_i32
  let c2_i32_17 : BitVec 32 := 2#32
  let v45 : BitVec 32 := Scalar.remsi v44 c2_i32_17
  let c4_i32_21 : BitVec 32 := 4#32
  let v51 : BitVec 32 := Scalar.muli v45 c4_i32_21
  let v52 : BitVec 32 := Scalar.addi c0_i32_22 v51
  let c1_i32_19 : BitVec 32 := 1#32
  let v3 : BitVec 32 := Dev.word d3
  let c2_i32_1 : BitVec 32 := 2#32
  let v4 : BitVec 32 := Scalar.divsi v3 c2_i32_1
  let c2_i32 : BitVec 32 := 2#32
  let v5 : BitVec 32 := Scalar.remsi v4 c2_i32
  let v49 : BitVec 32 := Scalar.subi c1_i32_19 v5
  let c2_i32_23 : BitVec 32 := 2#32
  let v53 : BitVec 32 := Scalar.muli v49 c2_i32_23
  let v54 : BitVec 32 := Scalar.addi v52 v53
  let v46 : BitVec 32 := Dev.word d3
  let c1_i32 : BitVec 32 := 1#32
  let v47 : BitVec 32 := Scalar.divsi v46 c1_i32
  let c2_i32_18 : BitVec 32 := 2#32
  let v48 : BitVec 32 := Scalar.remsi v47 c2_i32_18
  let c1_i32_24 : BitVec 32 := 1#32
  let v55 : BitVec 32 := Scalar.muli v48 c1_i32_24
  let v56 : BitVec 32 := Scalar.addi v54 v55
  v56.toNat
def k0_dev2 (d3 : Dev nD) : Nat :=
  let c0_i32_27 : BitVec 32 := 0#32
  let v43 : BitVec 32 := Dev.word d3
  let c4_i32 : BitVec 32 := 4#32
  let v44 : BitVec 32 := Scalar.divsi v43 c4_i32
  let c2_i32_17 : BitVec 32 := 2#32
  let v45 : BitVec 32 := Scalar.remsi v44 c2_i32_17
  let c4_i32_26 : BitVec 32 := 4#32
  let v57 : BitVec 32 := Scalar.muli v45 c4_i32_26
  let v58 : BitVec 32 := Scalar.addi c0_i32_27 v57
  let c1_i32_19 : BitVec 32 := 1#32
  let v3 : BitVec 32 := Dev.word d3
  let c2_i32_1 : BitVec 32 := 2#32
  let v4 : BitVec 32 := Scalar.divsi v3 c2_i32_1
  let c2_i32 : BitVec 32 := 2#32
  let v5 : BitVec 32 := Scalar.remsi v4 c2_i32
  let v49 : BitVec 32 := Scalar.subi c1_i32_19 v5
  let c2_i32_28 : BitVec 32 := 2#32
  let v59 : BitVec 32 := Scalar.muli v49 c2_i32_28
  let v60 : BitVec 32 := Scalar.addi v58 v59
  let v46 : BitVec 32 := Dev.word d3
  let c1_i32 : BitVec 32 := 1#32
  let v47 : BitVec 32 := Scalar.divsi v46 c1_i32
  let c2_i32_18 : BitVec 32 := 2#32
  let v48 : BitVec 32 := Scalar.remsi v47 c2_i32_18
  let c1_i32_29 : BitVec 32 := 1#32
  let v61 : BitVec 32 := Scalar.muli v48 c1_i32_29
  let v62 : BitVec 32 := Scalar.addi v60 v61
  v62.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S512x1024 : Shape := ⟨2, ![512, 1024]⟩
abbrev S1024x16384 : Shape := ⟨2, ![1024, 16384]⟩
abbrev S512 : Shape := ⟨1, ![512]⟩
abbrev S512x16384 : Shape := ⟨2, ![512, 16384]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x16384, .bf16⟩
  | .hbm, ⟨2, _⟩ => ⟨S512, .i32⟩
  | .hbm, ⟨3, _⟩ => ⟨S512x16384, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x16384, .f32⟩
  | .hbm, ⟨8, _⟩ => ⟨S512x16384, .f32⟩
  | .hbm, ⟨9, _⟩ => ⟨S512x16384, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Exchange.lean ====
/-
# The exchange of the two partial columns

The kernel runs on eight devices, numbered `4x + 2y + z` on the mesh `(x, y, z)`. Each device adds up, over its four
grid points, a pair of columns: per row the sum of exponentials over the device's half of the vocabulary, and the label's
logit if the label falls in that half. At the last point it swaps the pair with the device that differs from it in `y`
alone, its PARTNER. This module states that swap: who the partner is, what the accumulator holds after each point,
which semaphore cells take part, what each cell's one round carries, what a device owes at the start, and in what
order the cells may be waited on.

The pairing is symmetric: the partner of the partner is the device itself. So a device pays its partner's cells and is
paid by its partner, and no one else takes part.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Xent

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources

Two families of rounds run side by side: the staging copies of the pipeline, and the swap's own. -/

/-- The swap's rounds: one duty per cell and round. -/
abbrev SwapRounds : Type := URounds (GSem nD τ sig) Unit
/-- Both families together. -/
abbrev Both : Type := UR sig nD τ × SwapRounds

local notation "𝕄" => MT nD τ sig Unit (Elt F) ℕ Both ℕ

/-- The staging copies' part, -/
abbrev stagingPart : Emb (UR sig nD τ) (MT nD τ sig Unit (Elt F) ℕ Both ℕ) := embL
/-- and the swap's. -/
abbrev swapPart : Emb SwapRounds (MT nD τ sig Unit (Elt F) ℕ Both ℕ) := embR

variable (m : (ℓ : Loc nD τ sig) → Buf (Elt F) ℓ)

/-! ## Partners -/

/-- The device that differs from `c` in its `y` coordinate only. -/
def partner (c : Dev nD) : Dev nD := ⟨(4 * (c.val / 4) + c.val % 2 + 2) - 2 * ((c.val / 2) % 2), by have h : c.val < 8 := c.isLt; show _ < 8; omega⟩

theorem partner_partner (c : Dev nD) : partner (partner c) = c := by revert c; decide

/-- Pairing as a permutation of the devices, its own inverse. -/
def swapPerm : Dev nD ≃ Dev nD := ⟨partner, partner, partner_partner, partner_partner⟩

theorem partner_inj {a b : Dev nD} (h : partner a = partner b) : a = b := swapPerm.injective h

theorem eq_partner_comm {a b : Dev nD} (h : a = partner b) : b = partner a := by rw [h, partner_partner]

/-- The device the kernel's signal computes is the partner; -/
theorem signal_target (i : grid0.Coords) (c : Dev nD) (h : k0_cond2 i = 1#1) : (⟨k0_dev1 c, k0_dev1_lt i c h⟩ : Dev nD) = partner c :=
  Fin.ext (k0_dev1_eq c)
/-- so is the device its transfer computes. -/
theorem transfer_target (i : grid0.Coords) (c : Dev nD) (h : k0_cond2 i = 1#1) : (⟨k0_dev2 c, k0_dev2_lt i c h⟩ : Dev nD) = partner c :=
  Fin.ext (k0_dev2_eq c)

/-! ## The two scratch buffers and the three cells -/

/-- The accumulator: column 0 the sums of exponentials, column 1 the labels' logits. -/
abbrev accM : Memref sig .tc .vmem S512x2 .f32 := Memref.whole cc0_scratch0
/-- Where the partner's accumulator lands. -/
abbrev landM : Memref sig .tc .vmem S512x2 .f32 := Memref.whole cc0_scratch1

/-- The barrier semaphore, shared by every kernel of this collective id, -/
abbrev barrierSem : Sem sig := (SemArray.scalar (sig.barrier 0 rfl) : Sems sig S_).sem
/-- the semaphore that counts what has left, -/
abbrev leftSem : DmaSem sig := (cc0_scratch2 : DmaSems sig S_).sem
/-- and the one that counts what has landed. -/
abbrev landedSem : DmaSem sig := (cc0_scratch3 : DmaSems sig S_).sem

abbrev readyCell (c : Dev nD) : GSem nD τ sig := ((c : Thread nD τ), .reg barrierSem)
abbrev leftCell (c : Dev nD) : GSem nD τ sig := ((c : Thread nD τ), .dma leftSem)
abbrev landedCell (c : Dev nD) : GSem nD τ sig := ((c : Thread nD τ), .dma landedSem)

/-- The kernel's own two semaphores, -/
abbrev ownSem : Fin 2 → SemLoc sig := fun | 0 => .dma leftSem | 1 => .dma landedSem
/-- and all three the swap uses. -/
abbrev swapSem : Fin 3 → SemLoc sig := fun | 0 => .reg barrierSem | 1 => .dma leftSem | 2 => .dma landedSem
abbrev swapCell (ck : Dev nD × Fin 3) : GSem nD τ sig := ((ck.1 : Thread nD τ), swapSem ck.2)

/-- What one accumulator's transfer adds to a semaphore. -/
abbrev credit : ℕ := (landM : Memref sig .tc .vmem S512x2 .f32).view.dmaCredit
theorem credit_pos : 0 < credit := View.dmaCredit_pos _ (by decide)

/-! ## What the accumulator holds -/

/-- Column 0 of the accumulator, -/
abbrev sumCol : Rect S512x2 := Rect.unit (s := S512x2) ![0, 0] S512x1.size inb_S512x2_S512x1_0_0
/-- column 1, -/
abbrev hitCol : Rect S512x2 := Rect.unit (s := S512x2) ![0, 1] S512x1.size inb_S512x2_S512x1_0_1
/-- and all of it. -/
abbrev bothCols : Rect S512x2 := Rect.unit (s := S512x2) ![0, 0] S512x2.size inb_S512x2_S512x2_0_0

/-- The contents of an accumulator. -/
abbrev Acc (F : FTy → Type) : Type := (cc0_scratch0 : Ref sig .tc).ty.Contents (Elt F)

/-- Column 0 rewritten, column 1 kept; -/
abbrev putSum (f : Acc F) (w : FVec F S512x1 .f32) : Acc F := (accM.access sumCol : View sig .tc _ _ _).write (Elt F) f w Finset.univ
/-- column 1 rewritten, column 0 kept. -/
abbrev putHit (f : Acc F) (w : FVec F S512x1 .f32) : Acc F := (accM.access hitCol : View sig .tc _ _ _).write (Elt F) f w Finset.univ
/-- Column 0, as a load reads it; -/
abbrev getSum (f : Acc F) : FVec F S512x1 .f32 := accM.view.readAt (Elt F) sumCol.toLoadRect f
/-- and column 1. -/
abbrev getHit (f : Acc F) : FVec F S512x1 .f32 := accM.view.readAt (Elt F) hitCol.toLoadRect f

/-- One grid point's work on the accumulator: the exponentials' sums added to column 0, then the labels' logits to column 1. -/
def addTile (i : grid0.Coords) (c : Dev nD) (x : Vec F S512x1024 .bf16) (w : Vec F S1024x2048 .bf16) (lab : Vec F S512 .i32) (f : Acc F) : Acc F :=
  putHit (putSum f (k0_pay7 x w (getSum f))) (k0_pay1 (k0_pay6 i c x w lab) (getHit (putSum f (k0_pay7 x w (getSum f)))))

/-- The activations, as staged at point `t`; -/
abbrev xAt (c : Dev nD) (t : Fin cfg0.N) : Vec F S512x1024 .bf16 := iblk m c 0 t
/-- the tile of the vocabulary matrix; -/
abbrev wAt (c : Dev nD) (t : Fin cfg0.N) : Vec F S1024x2048 .bf16 := iblk m c 1 t
/-- the labels. -/
abbrev labAt (c : Dev nD) (t : Fin cfg0.N) : Vec F S512 .i32 := iblk m c 2 t

/-- Point `t` on device `c`'s accumulator. -/
def pointStep (c : Dev nD) (t : Fin cfg0.N) (f : Acc F) : Acc F :=
  addTile (grid0.coords t) c (xAt m c t) (wAt m c t) (labAt m c t) f

/-- Device `c`'s accumulator after the first point (which starts from zeros), -/
def acc1 (c : Dev nD) : Acc F := pointStep m c t0_0 (k0_pay4 (F := F))
/-- the second, -/
def acc2 (c : Dev nD) : Acc F := pointStep m c t0_1 (acc1 m c)
/-- the third, -/
def acc3 (c : Dev nD) : Acc F := pointStep m c t0_2 (acc2 m c)
/-- and the last: what it sends. -/
def acc4 (c : Dev nD) : Acc F := pointStep m c t0_3 (acc3 m c)

/-- The result, from a device's own accumulator and its partner's. -/
def combine (mine theirs : Acc F) : FVec F S512 .f32 :=
  k0_pay2 (k0_pay3 (getSum mine) (landM.view.readAt (Elt F) sumCol.toLoadRect theirs)) (getHit mine) (landM.view.readAt (Elt F) hitCol.toLoadRect theirs)

/-- What device `c` writes to its result. -/
def outAt (c : Dev nD) : FVec F S512 .f32 := combine (acc4 m c) (acc4 m (partner c))

/-! ## The two buffers as held -/

/-- Device `c` holds its accumulator, at `f`; -/
def accHeld (c : Dev nD) (f : Buf (Elt F) (accM.view.loc (c : Thread nD τ))) : sProp 𝕄 :=
  accM.view.loc (c : Thread nD τ) ↦[accM.view.set]{fullShare} f
/-- its landing buffer, at `f`. -/
def landHeld (c : Dev nD) (f : Buf (Elt F) (landM.view.loc (c : Thread nD τ))) : sProp 𝕄 :=
  landM.view.loc (c : Thread nD τ) ↦[landM.view.set]{fullShare} f

omit [FloatOps F] in
instance accHeld_storable (c : Dev nD) (f) : BI.Storable (upEmb : UEmb _ 𝕄) (accHeld (F := F) c f) := by unfold accHeld; infer_instance
omit [FloatOps F] in
instance landHeld_storable (c : Dev nD) (f) : BI.Storable (upEmb : UEmb _ 𝕄) (landHeld (F := F) c f) := by unfold landHeld; infer_instance

theorem acc_set : (accM : Memref sig .tc .vmem S512x2 .f32).view.set = Finset.univ := View.set_whole _
theorem land_set : (landM : Memref sig .tc .vmem S512x2 .f32).view.set = Finset.univ := View.set_whole _

omit [FloatOps F] in
theorem accHeld_eq (c : Dev nD) (f : Buf (Elt F) ((c : Thread nD τ).loc cc0_scratch0)) :
    accHeld c f = (((c : Thread nD τ).loc cc0_scratch0) ↦{fullShare} f : sProp 𝕄) := by unfold accHeld; rw [acc_set]
omit [FloatOps F] in
theorem landHeld_eq (c : Dev nD) (f : Buf (Elt F) ((c : Thread nD τ).loc cc0_scratch1)) :
    landHeld c f = (((c : Thread nD τ).loc cc0_scratch1) ↦{fullShare} f : sProp 𝕄) := by unfold landHeld; rw [land_set]

omit [FloatOps F] in
/-- An accumulator sent whole lands as it was. -/
theorem lands_as_sent (f : Acc F) (g : (cc0_scratch1 : Ref sig .tc).ty.Contents (Elt F)) :
    (landM : Memref sig .tc .vmem S512x2 .f32).view.write (Elt F) g ((accM : Memref sig .tc .vmem S512x2 .f32).view.read (Elt F) f) Finset.univ = f := by
  show (View.whole cc0_scratch1).write (Elt F) g ((View.whole cc0_scratch0).read (Elt F) f) Finset.univ = f
  rw [View.read_whole]
  exact View.write_whole_univ _ _ _

/-! ## The rounds

One round, round 0. The barrier cell of `c` is paid one unit by its partner, who hands over its own landing buffer and the
news that its landed cell stands at round 0: all that `c` needs to send to it. The left cell of `c` is paid by `c`'s own
transfer and returns the accumulator; the landed cell by the partner's, and returns the landing buffer holding the partner's
accumulator. -/

def readyPay (c : Dev nD) : sProp 𝕄 := iprop((∃ f, landHeld (partner c) f) ∗ reached swapPart (landedCell (partner c)) 0)
def leftPay (c : Dev nD) : sProp 𝕄 := accHeld c (acc4 m c)
def landedPay (c : Dev nD) : sProp 𝕄 := landHeld c (acc4 m (partner c))

/-- The cells of the swap. -/
abbrev Swaps (g : GSem nD τ sig) : Prop := g.1.2 = .tc ∧ (g.2 = .reg barrierSem ∨ g.2 = .dma leftSem ∨ g.2 = .dma landedSem)

def rounds : Rounds.Schedule (GSem nD τ sig) Unit 𝕄 where
  duties g r := if r = 0 ∧ Swaps g then {()} else ∅
  unitless _ := False
  amount g _ _ := if g.2 = .reg barrierSem then 1 else credit
  payload g _ _ :=
    if g.2 = .reg barrierSem then readyPay g.1.1
    else if g.2 = .dma landedSem then landedPay m g.1.1
    else if g.2 = .dma leftSem then leftPay m g.1.1
    else iprop(emp)
  amount_pos g _ _ _ := by
    by_cases h : g.2 = .reg barrierSem
    · rw [if_pos h]; exact Nat.one_pos
    · rw [if_neg h]; exact credit_pos

instance rounds_storable (g : GSem nD τ sig) (r : ℕ) (d : Unit) : BI.Storable (upEmb : UEmb _ 𝕄) ((rounds (F := F) m).payload g r d) := by
  show BI.Storable upEmb (if g.2 = .reg barrierSem then readyPay g.1.1 else if g.2 = .dma landedSem then landedPay m g.1.1
    else if g.2 = .dma leftSem then leftPay m g.1.1 else iprop(emp))
  unfold readyPay landedPay leftPay
  (repeat' split) <;> infer_instance

theorem left_ne_barrier : (SemLoc.dma leftSem : SemLoc sig) ≠ .reg barrierSem := fun h => by cases h
theorem landed_ne_barrier : (SemLoc.dma landedSem : SemLoc sig) ≠ .reg barrierSem := fun h => by cases h
theorem left_ne_landed : (SemLoc.dma leftSem : SemLoc sig) ≠ .dma landedSem := by decide

section Rows
variable (c : Dev nD)

theorem swaps_at (k : Fin 3) : Swaps (swapCell (c, k)) := by
  fin_cases k
  · exact ⟨rfl, .inl rfl⟩
  · exact ⟨rfl, .inr (.inl rfl)⟩
  · exact ⟨rfl, .inr (.inr rfl)⟩

/-- Every cell of the swap has its one duty in round 0, -/
theorem duties_now (k : Fin 3) : (rounds (F := F) m).duties (swapCell (c, k)) 0 = {()} := if_pos ⟨rfl, swaps_at c k⟩
/-- and none later. -/
theorem duties_after (g : GSem nD τ sig) : ∀ r, 1 ≤ r → (rounds (F := F) m).duties g r = ∅ :=
  fun r hr => if_neg fun h => by omega
theorem duty_mem (k : Fin 3) : () ∈ (rounds (F := F) m).duties (swapCell (c, k)) 0 := by
  rw [duties_now]; exact Finset.mem_singleton_self _

theorem amount_ready : (rounds (F := F) m).amount (readyCell c) 0 () = 1 := by dsimp only [rounds]; exact if_pos rfl
theorem amount_left : (rounds (F := F) m).amount (leftCell c) 0 () = credit := by dsimp only [rounds]; exact if_neg left_ne_barrier
theorem amount_landed : (rounds (F := F) m).amount (landedCell c) 0 () = credit := by dsimp only [rounds]; exact if_neg landed_ne_barrier

theorem expect_eq (k : Fin 3) : (rounds (F := F) m).expect (swapCell (c, k)) 0 = (rounds (F := F) m).amount (swapCell (c, k)) 0 () := by
  unfold Schedule.expect Schedule.amountOf; rw [duties_now, Finset.sum_singleton]
theorem expect_ready : (rounds (F := F) m).expect (readyCell c) 0 = 1 := (expect_eq m c 0).trans (amount_ready m c)
theorem expect_left : (rounds (F := F) m).expect (leftCell c) 0 = credit := (expect_eq m c 1).trans (amount_left m c)
theorem expect_landed : (rounds (F := F) m).expect (landedCell c) 0 = credit := (expect_eq m c 2).trans (amount_landed m c)

theorem payload_ready : (rounds (F := F) m).payload (readyCell c) 0 () = readyPay c := by dsimp only [rounds]; exact if_pos rfl
theorem payload_landed : (rounds (F := F) m).payload (landedCell c) 0 () = landedPay m c := by
  dsimp only [rounds]; rw [if_neg landed_ne_barrier, if_pos rfl]
theorem payload_left : (rounds (F := F) m).payload (leftCell c) 0 () = leftPay m c := by
  dsimp only [rounds]; rw [if_neg left_ne_barrier, if_neg left_ne_landed, if_pos rfl]

/-- A whole round's payload is its one duty's. -/
theorem rest_eq (k : Fin 3) : bigSep ((rounds (F := F) m).duties (swapCell (c, k)) 0 \ ∅) (fun d => (rounds (F := F) m).payload (swapCell (c, k)) 0 d)
    = (rounds (F := F) m).payload (swapCell (c, k)) 0 () := by
  rw [Finset.sdiff_empty, duties_now, bigSep_singleton]
theorem rest_ready : bigSep ((rounds (F := F) m).duties (readyCell c) 0 \ ∅) (fun d => (rounds (F := F) m).payload (readyCell c) 0 d) = readyPay c :=
  (rest_eq m c 0).trans (payload_ready m c)
theorem rest_left : bigSep ((rounds (F := F) m).duties (leftCell c) 0 \ ∅) (fun d => (rounds (F := F) m).payload (leftCell c) 0 d) = leftPay m c :=
  (rest_eq m c 1).trans (payload_left m c)
theorem rest_landed : bigSep ((rounds (F := F) m).duties (landedCell c) 0 \ ∅) (fun d => (rounds (F := F) m).payload (landedCell c) 0 d) = landedPay m c :=
  (rest_eq m c 2).trans (payload_landed m c)

end Rows

/-! ## What is owed, and the order of the cells -/

/-- Device `c` owes its partner one transfer's credit, -/
def owesData (c : Dev nD) : CellTallies nD τ sig Unit := tallyAt (landedCell (partner c)) () credit
/-- and at the start one barrier unit besides. -/
def owesAll (c : Dev nD) : CellTallies nD τ sig Unit := owesData c + tallyAt (readyCell (partner c)) () 1

/-- The labels of a cell: one on a TensorCore's. -/
def labels (g : GSem nD τ sig) : Finset Unit := if g.1.2 = .tc then {()} else ∅
/-- Staging and left cells come first, barrier cells next, landed cells last. -/
def rank (g : GSem nD τ sig) (_ : Unit) : ℕ := if g.2 = .reg barrierSem then 1 else if g.2 = .dma landedSem then 2 else 0

theorem labels_off (g : GSem nD τ sig) (h : g.1.2 ≠ .tc) : labels g = ∅ := if_neg h
theorem labels_tc (c : Dev nD) (sm : SemLoc sig) : labels ((c : Thread nD τ), sm) = {()} := if_pos rfl
theorem label_mem (c : Dev nD) (sm : SemLoc sig) (u : Unit) : u ∈ labels ((c : Thread nD τ), sm) := by
  rw [labels_tc]; exact Finset.mem_singleton_self _

theorem rank_ready (c : Dev nD) (u : Unit) : rank (readyCell c) u = 1 := if_pos rfl
theorem rank_landed (c : Dev nD) (u : Unit) : rank (landedCell c) u = 2 := by unfold rank; rw [if_neg landed_ne_barrier, if_pos rfl]
theorem rank_other (c : Dev nD) (q : DmaSem sig) (hq : SemLoc.dma q ≠ .dma landedSem) (u : Unit) : rank ((c : Thread nD τ), .dma q) u = 0 := by
  unfold rank; rw [if_neg (fun h => by cases h), if_neg hq]

theorem tally_pos {g₀ g : GSem nD τ sig} {n : ℕ} {u : Unit} (h : 0 < (tallyAt g₀ () n : CellTallies nD τ sig Unit) g u) : g = g₀ := by
  by_contra hn
  rw [tallyAt_apply, if_neg fun h' => hn h'.1] at h
  exact Nat.lt_irrefl 0 h

theorem owesAll_pos {c : Dev nD} {g : GSem nD τ sig} {u : Unit} (h : 0 < owesAll c g u) : g = landedCell (partner c) ∨ g = readyCell (partner c) := by
  unfold owesAll owesData at h
  rw [Pi.add_apply, Finsupp.add_apply] at h
  rcases Nat.pos_of_ne_zero (Nat.ne_of_gt h) |> Nat.add_pos_iff_pos_or_pos.mp with h' | h'
  · exact .inl (tally_pos h')
  · exact .inr (tally_pos h')

omit [FloatOps F] in
/-- A staging wait is safe whatever the swap still owes. -/
theorem mayWait_staging (c : Dev nD) (q : DmaSem sig) (hq : SemLoc.dma q ≠ .dma landedSem) (O : CellTallies nD τ sig Unit) (hO : O = owesAll c ∨ O = 0) :
    (levAts labels rank : sProp 𝕄) ⊢ MayWait (c : Thread nD τ) (.dma q) () O := by
  rcases hO with rfl | rfl
  · refine MayOwe.of_cut (L := labels) (lev := rank) 0 (fun p hp => by rw [Finset.mem_singleton.mp hp]; exact label_mem c _ _)
      (fun g u hg => by rcases owesAll_pos hg with rfl | rfl <;> exact label_mem _ _ _)
      (fun p hp => by rw [Finset.mem_singleton.mp hp]; exact (rank_other c q hq _).le)
      (fun g u hg => by
        rcases owesAll_pos hg with rfl | rfl
        · rw [rank_landed]; decide
        · rw [rank_ready]; decide)
  · rw [MayWait_zero]; iintro -; iempintro

omit [FloatOps F] in
/-- At the barrier a device owes its transfer only, and that stands above the barrier. -/
theorem mayWait_barrier (c : Dev nD) : (levAts labels rank : sProp 𝕄) ⊢ MayWait (c : Thread nD τ) (.reg barrierSem) () (owesData c) :=
  MayOwe.of_cut (L := labels) (lev := rank) 1 (fun p hp => by rw [Finset.mem_singleton.mp hp]; exact label_mem c _ _)
    (fun g u hg => by rw [tally_pos hg]; exact label_mem _ _ _)
    (fun p hp => by rw [Finset.mem_singleton.mp hp]; exact (rank_ready c _).le)
    (fun g u hg => by rw [tally_pos hg, rank_landed]; decide)

/-! ## What a device starts from -/

/-- The cells a device's body opens, at the names they were set up under: its own three and two of its partner's. -/
def cellsKnown (K : Dev nD × Fin 3 → ℕ) (c : Dev nD) : sProp 𝕄 :=
  iprop(cellInv swapPart (rounds m) (K (c, 0)) (readyCell c) ∗ cellInv swapPart (rounds m) (K (c, 1)) (leftCell c)
    ∗ cellInv swapPart (rounds m) (K (c, 2)) (landedCell c)
    ∗ cellInv swapPart (rounds m) (K (partner c, 0)) (readyCell (partner c)) ∗ cellInv swapPart (rounds m) (K (partner c, 2)) (landedCell (partner c)))

instance cellsKnown_persistent (K : Dev nD × Fin 3 → ℕ) (c : Dev nD) : BI.Persistent (cellsKnown m K c) := by unfold cellsKnown; infer_instance

/-- With them: the device's positions in its own cells, the marks that the cells it pays stand at round 0, and the three
    duties it pays. -/
def tickets (K : Dev nD × Fin 3 → ℕ) (c : Dev nD) : sProp 𝕄 :=
  iprop(cellsKnown m K c
    ∗ (atPos swapPart (readyCell c) 0 ∅ 0 ∗ atPos swapPart (leftCell c) 0 ∅ 0 ∗ atPos swapPart (landedCell c) 0 ∅ 0)
    ∗ (reached swapPart (readyCell (partner c)) 0 ∗ reached swapPart (landedCell (partner c)) 0 ∗ reached swapPart (leftCell c) 0 ∗ reached swapPart (landedCell c) 0)
    ∗ dutyTok swapPart (readyCell (partner c)) 0 () ∗ dutyTok swapPart (landedCell (partner c)) 0 () ∗ dutyTok swapPart (leftCell c) 0 ())

/-- All a device keeps until its last point: the tickets, the credits for its own barrier and landed cells, and the order. -/
def ready (c : Dev nD) : sProp 𝕄 :=
  iprop((∃ K, tickets m K c) ∗ cred (tallyAt (readyCell c) () 1) ∗ cred (tallyAt (landedCell c) () credit) ∗ levAts labels rank)

end Cert.Xent

end
-- ==== Proof.Body.lean ====
/-
# The body at one grid point

The kernel's body, run symbolically. Its first part is the same at every point: (at the first point) zero the
accumulator, then read the three staged blocks and add the tile's two columns to the accumulator. Its second part runs
at the last point only: signal the partner, wait for the partner's signal, send the accumulator, wait for both ends of
the transfer, and store the result. Each part is one lemma, stated over arbitrary staging buffers, and the obligation the
pipeline asks for is put together from them point by point.
-/
module

public import proofs.«01_k».proof.Proof.Exchange
public import Idealize.ShloMosaic.Lib.Pipeline.Value

@[expose] public section

noncomputable section

namespace Cert.Xent

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Both ℕ

variable (m : (ℓ : Loc nD τ sig) → Buf (Elt F) ℓ)

/-- No call of this program recurses: no variant is needed. -/
abbrev noVariants : Variants := Variants.none

/-! ## Reading and writing a staging buffer whole -/

theorem zeros2 : (![0, 0] : Fin 2 → Nat) = fun _ => 0 := funext fun a => by fin_cases a <;> rfl
theorem zeros1 : (![0] : Fin 1 → Nat) = fun _ => 0 := funext fun a => by fin_cases a; rfl

/-- A load of everything reads the contents. -/
theorem readAt_everything {κ : Kind} {sp : Space} {S : Shape} {e : EltTy} {Val : EltTy → Type} (v : View sig κ sp S e) {off : Fin S.rank → Nat}
    (h : off = fun _ => 0) (inb : ∀ a, off a + S.size a ≤ S.size a) (f : v.ty.Contents Val) :
    v.readAt Val (Rect.unit off S.size inb).toLoadRect f = v.read Val f := by
  rw [View.readAt_eq_ld]; exact View.ld_unit_zero h inb _

/-- After a store of everything the contents are what was stored. -/
theorem read_after_store {κ : Kind} {sp : Space} {S : Shape} {e : EltTy} {Val : EltTy → Type} (M : Memref sig κ sp S e) {off : Fin S.rank → Nat}
    (h : off = fun _ => 0) (inb : ∀ a, off a + S.size a ≤ S.size a) (f : M.view.ty.Contents Val) (w : S.Idx → Val e) :
    M.view.read Val ((M.access (Rect.unit off S.size inb)).write Val f w Finset.univ) = w := by
  subst h
  funext y
  have e1 := View.read_writes_cons_emb M.view f (Rect.whole S) w [] y
  rwa [Rect.emb_whole_apply] at e1

/-! ## The first part: one tile added -/

/-- Whether the body zeroes the accumulator first: a condition on the grid point alone. -/
abbrev startsFresh (i : grid0.Coords) : Prop :=
  Scalar.cmpi .ne (Scalar.extui (Scalar.cmpi .eq (BitVec.ofNat 32 (i 0).val) 0#32) : BitVec 32) 0#32 = 1#1

section Parts

variable (i : grid0.Coords) (M1 : Memref sig .tc .vmem S512x1024 .bf16) (h1 : M1.IsWhole) (M2 : Memref sig .tc .vmem S1024x2048 .bf16) (h2 : M2.IsWhole)
  (M3 : Memref sig .tc .vmem S512 .i32) (h3 : M3.IsWhole) (M4 : Memref sig .tc .vmem S512 .f32) (h4 : M4.IsWhole)
variable (c : Dev nD) (x : Vec F S512x1024 .bf16) (w : Vec F S1024x2048 .bf16) (lab : Vec F S512 .i32)

/-- The three staged inputs, held. -/
def inputs : sProp 𝕄 := iprop(owns (c : Thread nD τ) M1 fullShare x ∗ owns (c : Thread nD τ) M2 fullShare w ∗ owns (c : Thread nD τ) M3 fullShare lab)

/-- What the first part hands the second: its grid coordinate, its device, its `y` coordinate, the column of logits found. -/
abbrev handOver : Σ' (_ : BitVec 32) (_ : Dev nD) (_ : BitVec 32), FVec F S512x1 .f32 :=
  ⟨BitVec.ofNat 32 (i 0).val, c, Scalar.remsi (Scalar.divsi (Dev.word c) 2#32) 2#32, k0_pay6 i c x w lab⟩

set_option maxHeartbeats 1600000 in
/-- The first part adds the exponentials' sums to column 0 of the accumulator — of zeros where it starts afresh, of what was
    there elsewhere — and returns the labels' logits found in the tile. -/
theorem first_part (f g : Acc F) (hstart : startsFresh i ∧ g = k0_pay4 (F := F) ∨ ¬ startsFresh i ∧ g = f)
    (Φ : (Σ' (_ : BitVec 32) (_ : Dev nD) (_ : BitVec 32), FVec F S512x1 .f32) → sProp 𝕄) :
    iprop(accHeld c f ∗ inputs M1 M2 M3 c x w lab
        ∗ ((accHeld c (putSum g (k0_pay7 x w (getSum g))) ∗ inputs M1 M2 M3 c x w lab) -∗ Φ (handOver i c x w lab)))
      ⊢ wp frame (wpE (defs₀ (F := F)) noVariants (c : Thread nD τ) none) Set.univ
          (k0_part2 i M1 h1 M2 h2 M3 h3 M4 h4 accM (Memref.isWhole_whole _) landM (Memref.isWhole_whole _) cc0_scratch2 cc0_scratch3) Φ := by
  -- the rest, from an accumulator at `g`
  have rest : iprop(accHeld c g ∗ inputs M1 M2 M3 c x w lab
        ∗ ((accHeld c (putSum g (k0_pay7 x w (getSum g))) ∗ inputs M1 M2 M3 c x w lab) -∗ Φ (handOver i c x w lab)))
      ⊢ wp frame (wpE (defs₀ (F := F)) noVariants (c : Thread nD τ) none) Set.univ
          (do
            let d3 : Dev nD ← Prog.lift .deviceId
            let v6 : Vec F S512x1024 .bf16 ← Prog.lift (.load M1 (Rect.unit (s := S512x1024) ![0, 0] S512x1024.size inb_S512x1024_S512x1024_0_0).toLoadRect (View.loadsAt_vmem h_S512x1024))
            let v8 : Vec F S1024x2048 .bf16 ← Prog.lift (.load M2 (Rect.unit (s := S1024x2048) ![0, 0] S1024x2048.size inb_S1024x2048_S1024x2048_0_0).toLoadRect (View.loadsAt_vmem h_S1024x2048))
            let v18 : Vec F S512 .i32 ← Prog.lift (.load M3 (Rect.unit (s := S512) ![0] S512.size inb_S512_S512_0).toLoadRect (View.loadsAt_vmem h_S512))
            let v30 : Vec F S512x1 .f32 ← Prog.lift (.load accM sumCol.toLoadRect (View.loadsAt_vmem h_S512x1))
            let _ : Vec F S512x1 .f32 ← Prog.lift (.load accM sumCol.toLoadRect (View.loadsAt_vmem h_S512x1))
            Prog.lift (.store accM sumCol (k0_pay7 v6 v8 v30) Finset.univ (View.stores_vmem_bits_univ h_S512x1 rfl) (.inl rfl))
            pure ⟨BitVec.ofNat 32 (i 0).val, d3, Scalar.remsi (Scalar.divsi (Dev.word d3) 2#32) 2#32, k0_pay6 i d3 v6 v8 v18⟩) Φ := by
    simp only [Prog.lift, Prog.bind_op, Prog.bind_ret, Prog.pure_eq_ret, wp_deviceId]
    unfold accHeld inputs owns
    iintro ⟨Ha, ⟨⟨%f1, %e1, H1⟩, ⟨%f2, %e2, H2⟩, ⟨%f3, %e3, H3⟩⟩, HΦ⟩
    iapply (wp_load noVariants (c : Thread nD τ) none Set.univ (m := M1) (View.setOn_subset_set _ _)) $$ H1; iintro H1
    rw [readAt_everything M1.view zeros2, e1]
    iapply (wp_load noVariants (c : Thread nD τ) none Set.univ (m := M2) (View.setOn_subset_set _ _)) $$ H2; iintro H2
    rw [readAt_everything M2.view zeros2, e2]
    iapply (wp_load noVariants (c : Thread nD τ) none Set.univ (m := M3) (View.setOn_subset_set _ _)) $$ H3; iintro H3
    rw [readAt_everything M3.view zeros1, e3]
    iapply (wp_load noVariants (c : Thread nD τ) none Set.univ (m := accM) (View.setOn_subset_set _ _)) $$ Ha; iintro Ha
    iapply (wp_load noVariants (c : Thread nD τ) none Set.univ (m := accM) (View.setOn_subset_set _ _)) $$ Ha; iintro Ha
    iapply (wp_store noVariants (c : Thread nD τ) none Set.univ (m := accM) (r := sumCol) (Mk := Finset.univ) (by rw [acc_set]; exact Finset.subset_univ _)) $$ Ha; iintro Ha
    rw [wp_ret]; imodintro
    iapply HΦ
    isplitl [Ha]; · iexact Ha
    isplitl [H1]
    · iexists f1; isplitr; · (ipureintro; exact e1)
      iexact H1
    isplitl [H2]
    · iexists f2; isplitr; · (ipureintro; exact e2)
      iexact H2
    · iexists f3; isplitr; · (ipureintro; exact e3)
      iexact H3
  rw [k0_part2_eq_skeleton]; unfold k0_part2_skel
  rcases hstart with ⟨hs, rfl⟩ | ⟨hs, rfl⟩
  · rw [dif_pos hs]
    simp only [Prog.lift, Prog.bind_op, Prog.bind_ret, Prog.pure_eq_ret] at rest ⊢
    iintro ⟨Ha, Hin, HΦ⟩
    unfold accHeld
    iapply (wp_load noVariants (c : Thread nD τ) none Set.univ (m := accM) (View.setOn_subset_set _ _)) $$ Ha; iintro Ha
    iapply (wp_store noVariants (c : Thread nD τ) none Set.univ (m := accM) (r := bothCols) (Mk := Finset.univ) (by rw [acc_set]; exact Finset.subset_univ _)) $$ Ha; iintro Ha
    rw [show (accM.access bothCols : View sig .tc _ _ _).write (Elt F) f (k0_pay4 (F := F)) Finset.univ = k0_pay4 (F := F) from
      Memref.write_access_unit_zero_univ (Elt F) cc0_scratch0 zeros2 _ f _]
    iapply rest
    unfold accHeld
    isplitl [Ha]; · iexact Ha
    isplitl [Hin] <;> iassumption
  · rw [dif_neg hs]
    exact rest

/-- The whole body, away from the last point: one tile added. -/
theorem quiet_body (hq : ¬ k0_cond2 i = 1#1) (f g : Acc F) (hstart : startsFresh i ∧ g = k0_pay4 (F := F) ∨ ¬ startsFresh i ∧ g = f)
    (Φ : PUnit → sProp 𝕄) :
    iprop(accHeld c f ∗ inputs M1 M2 M3 c x w lab ∗ ((accHeld c (addTile i c x w lab g) ∗ inputs M1 M2 M3 c x w lab) -∗ Φ ⟨⟩))
      ⊢ wp frame (wpE (defs₀ (F := F)) noVariants (c : Thread nD τ) none) Set.univ
          (cc0_body i M1 h1 M2 h2 M3 h3 M4 h4 accM (Memref.isWhole_whole _) landM (Memref.isWhole_whole _) cc0_scratch2 cc0_scratch3) Φ := by
  rw [cc0_body_eq_skeleton]; unfold cc0_body_skel
  rw [wp_bind]
  iintro ⟨Ha, Hin, HΦ⟩
  iapply (first_part i M1 h1 M2 h2 M3 h3 M4 h4 c x w lab f g hstart)
  isplitl [Ha]; · iexact Ha
  isplitl [Hin]; · iexact Hin
  iintro ⟨Ha, Hin⟩
  dsimp only
  rw [dif_neg hq]
  simp only [Prog.lift, Prog.bind_op, Prog.bind_ret, Prog.pure_eq_ret]
  unfold accHeld
  iapply (wp_load noVariants (c : Thread nD τ) none Set.univ (m := accM) (View.setOn_subset_set _ _)) $$ Ha; iintro Ha
  iapply (wp_load noVariants (c : Thread nD τ) none Set.univ (m := accM) (View.setOn_subset_set _ _)) $$ Ha; iintro Ha
  iapply (wp_store noVariants (c : Thread nD τ) none Set.univ (m := accM) (r := hitCol) (Mk := Finset.univ) (by rw [acc_set]; exact Finset.subset_univ _)) $$ Ha; iintro Ha
  rw [wp_ret]; imodintro
  iapply HΦ
  isplitl [Ha]
  · unfold addTile; iexact Ha
  · iexact Hin

/-! ## The second part: the swap -/

variable (K : Dev nD × Fin 3 → ℕ)

/-- The transfer to the partner: it takes the accumulator and the partner's landing buffer, and pays what is owed. -/
theorem send_to_partner (c n : Dev nD) (hn : n = partner c) {hsc : (landM : Memref sig (Dev.tc n : Thread nD τ).2.kind .vmem S512x2 .f32).view.ref.isScScratch = false}
    {hsrc : (accM : Memref sig .tc .vmem S512x2 .f32).view.WordExact} {hdst : (landM : Memref sig .tc .vmem S512x2 .f32).view.WordExact}
    {hsem : DmaTarget.Typed .vmem (.dma landedSem) (.remote (Dev.tc n : Thread nD τ) (landM : Memref sig .tc .vmem S512x2 .f32) (.dma leftSem) hsc)}
    {α : Type} {Φ : α → sProp 𝕄} {k : PUnit → Prog (TpuEff nD τ sig (Elt F) Λ₀ .tc) α}
    (g : Buf (Elt F) ((landM : Memref sig .tc .vmem S512x2 .f32).view.loc (partner c : Thread nD τ))) (W : Waits sig Unit) :
    iprop(cellInv swapPart (rounds m) (K (c, 1)) (leftCell c) ∗ cellInv swapPart (rounds m) (K (partner c, 2)) (landedCell (partner c))
        ∗ accHeld c (acc4 m c) ∗ landHeld (partner c) g
        ∗ owes (c : Thread nD τ) (owesData c) W
        ∗ dutyTok swapPart (leftCell c) 0 () ∗ reached swapPart (leftCell c) 0
        ∗ dutyTok swapPart (landedCell (partner c)) 0 () ∗ reached swapPart (landedCell (partner c)) 0)
      ⊢ iprop(((cred (tallyAt (leftCell c) () credit) ∗ owes (c : Thread nD τ) 0 W)
            -∗ wp frame (wpE (defs₀ (F := F)) noVariants (c : Thread nD τ) none) Set.univ (k ⟨⟩) Φ)
          -∗ wp frame (wpE (defs₀ (F := F)) noVariants (c : Thread nD τ) none) Set.univ
              (.op (.enqueueDma accM (.remote (Dev.tc n : Thread nD τ) landM (.dma leftSem) hsc) (.dma landedSem) hsrc hdst hsem) k) Φ) := by
  subst hn
  unfold accHeld landHeld
  exact Rounds.wp_send_pointsTo noVariants swapPart (rounds m) (c : Thread nD τ) none (κ₁ := K (c, 1)) (κ₂ := K (partner c, 2))
    (r₁ := 0) (r₂ := 0) (d₁ := ()) (d₂ := ()) (fd := g) (duty_mem m c 1) (duty_mem m (partner c) 2)
    () () credit rfl (amount_left m c) (amount_landed m (partner c)) 0 (by unfold owesData; rw [zero_add]) (W := W)
    (by rw [payload_left]; exact BI.Entails.refl _)
    (by rw [payload_landed]; unfold landedPay landHeld; rw [lands_as_sent, partner_partner])

/-- What the swap leaves: both accumulators, and the three counters at zero. -/
def swapped (c : Dev nD) : sProp 𝕄 :=
  iprop(accHeld c (acc4 m c) ∗ landHeld c (acc4 m (partner c)) ∗ semVal (leftCell c) 0 ∗ semVal (landedCell c) 0 ∗ semVal (readyCell c) 0)

set_option maxHeartbeats 1600000 in
/-- The swap, to the point where both accumulators are read: signal, wait, send, and both waits on the transfer. -/
theorem second_part (hlast : k0_cond2 i = 1#1) (v5 : BitVec 32) (W : Waits sig Unit) (Φ : FVec F S512x1 .f32 → sProp 𝕄) :
    iprop(tickets m K c ∗ cred (tallyAt (readyCell c) () 1) ∗ cred (tallyAt (landedCell c) () credit) ∗ levAts labels rank
        ∗ accHeld c (acc4 m c) ∗ (∃ g, landHeld c g) ∗ owes (c : Thread nD τ) (owesAll c) W
        ∗ ((swapped m c ∗ ∃ W', owes (c : Thread nD τ) 0 W')
            -∗ Φ (k0_pay3 (getSum (acc4 m c)) (landM.view.readAt (Elt F) sumCol.toLoadRect (acc4 m (partner c))))))
      ⊢ wp frame (wpE (defs₀ (F := F)) noVariants (c : Thread nD τ) none) Set.univ
          (k0_part1 i M1 h1 M2 h2 M3 h3 M4 h4 accM (Memref.isWhole_whole _) landM (Memref.isWhole_whole _) cc0_scratch2 cc0_scratch3 c v5 hlast) Φ := by
  rw [k0_part1_eq_skeleton]; unfold k0_part1_skel
  simp only [semSignalWord, semWaitWord, Prog.lift, Prog.bind_op, Prog.bind_ret, Prog.pure_eq_ret]
  unfold tickets cellsKnown
  iintro ⟨⟨⟨#Iready, #Ileft, #Ilanded, #Iready', #Ilanded'⟩, ⟨PR, PL, PD⟩, ⟨#Rready', #Rlanded', #Rleft, #Rlanded⟩, TR, TD, TL⟩, CR, CD, #Hord, Hacc, ⟨%g0, Hland⟩, HO, HΦ⟩
  simp only [signal_target i c hlast]
  -- the signal: the partner's barrier gets this device's landing buffer
  unfold owesAll
  iapply (Rounds.wp_signal noVariants swapPart (rounds m) (c : Thread nD τ) none (dst := (partner c : Thread nD τ)) (κ := K (partner c, 0))
      (d := ()) (duty_mem m (partner c) 0) ((amount_ready m (partner c)).trans (by decide)) () (owesData c) rfl) $$ [HO TR Hland]
  · isplitr; · iexact Iready'
    isplitl [HO]; · iexact HO
    isplitl [TR]; · iexact TR
    isplitl [Hland]
    · rw [payload_ready]; unfold readyPay; rw [partner_partner]
      isplitl [Hland]; · iexists g0; iexact Hland
      iexact Rlanded
    · iexact Rready'
  iintro HO
  -- the wait on its own barrier: the partner's landing buffer
  iapply (Rounds.wp_wait_rest_token noVariants swapPart (rounds m) (c : Thread nD τ) none (κ := K (c, 0))
      (wpE_semWait_eq noVariants (c : Thread nD τ) none Set.univ) (Set.mem_univ _) () (O := owesData c) (W := W) (R := 0) (m := 0) (T := ∅)
      (by rw [expect_ready]; decide)) $$ [CR HO PR]
  · isplitr; · iexact Iready
    isplitl [CR]; · iexact CR
    isplitl [HO]; · iexact HO
    isplitr; · iapply (mayWait_barrier c); iexact Hord
    iexact PR
  iintro ⟨HO, PR, -, Hgot⟩
  ihave Hgot' := (Entails.of_eq (rest_ready m c)) $$ Hgot
  unfold readyPay
  icases Hgot' with ⟨⟨%g1, Hland'⟩, -⟩
  -- the transfer
  iapply (send_to_partner m K c _ (transfer_target i c hlast) g1 (insert (SemLoc.reg barrierSem, ()) W)) $$ [Hacc Hland' HO TL TD]
  · isplitr; · iexact Ileft
    isplitr; · iexact Ilanded'
    isplitl [Hacc]; · iexact Hacc
    isplitl [Hland']; · iexact Hland'
    isplitl [HO]; · iexact HO
    isplitl [TL]; · iexact TL
    isplitr; · iexact Rleft
    isplitl [TD]; · iexact TD
    iexact Rlanded'
  iintro ⟨CL, HO⟩
  -- the wait for what left: the accumulator comes back
  iapply (Rounds.wp_wait_rest_token noVariants swapPart (rounds m) (c : Thread nD τ) none (κ := K (c, 1))
      (wpE_waitDma2_eq noVariants (c : Thread nD τ) none Set.univ) (Set.mem_univ _) () (O := 0) (W := insert (SemLoc.reg barrierSem, ()) W) (R := 0) (m := 0) (T := ∅)
      (by rw [Nat.zero_add, expect_left])) $$ [CL HO PL]
  · isplitr; · iexact Ileft
    isplitl [CL]; · iexact CL
    isplitl [HO]; · iexact HO
    isplitr; · rw [MayWait_zero]; iempintro
    iexact PL
  iintro ⟨HO, PL, -, Hgot⟩
  ihave Hacc := (Entails.of_eq (rest_left m c)) $$ Hgot
  -- the wait for what lands: the partner's accumulator
  iapply (Rounds.wp_wait_rest_token noVariants swapPart (rounds m) (c : Thread nD τ) none (κ := K (c, 2))
      (wpE_waitDma2_eq noVariants (c : Thread nD τ) none Set.univ) (Set.mem_univ _) () (O := 0)
      (W := insert (SemLoc.dma leftSem, ()) (insert (SemLoc.reg barrierSem, ()) W)) (R := 0) (m := 0) (T := ∅)
      (by rw [Nat.zero_add, expect_landed])) $$ [CD HO PD]
  · isplitr; · iexact Ilanded
    isplitl [CD]; · iexact CD
    isplitl [HO]; · iexact HO
    isplitr; · rw [MayWait_zero]; iempintro
    iexact PD
  iintro ⟨HO, PD, -, Hgot⟩
  ihave Hland := (Entails.of_eq (rest_landed m c)) $$ Hgot
  -- the three cells close
  imod (Rounds.cell_close swapPart (rounds m) (Set.mem_univ (K (c, 1))) (fun h => h) (R := 0 + 1) (duties_after m (leftCell c))) $$ [PL] with ZL
  · isplitr; · iexact Ileft
    iexact PL
  imod (Rounds.cell_close swapPart (rounds m) (Set.mem_univ (K (c, 2))) (fun h => h) (R := 0 + 1) (duties_after m (landedCell c))) $$ [PD] with ZD
  · isplitr; · iexact Ilanded
    iexact PD
  imod (Rounds.cell_close swapPart (rounds m) (Set.mem_univ (K (c, 0))) (fun h => h) (R := 0 + 1) (duties_after m (readyCell c))) $$ [PR] with ZR
  · isplitr; · iexact Iready
    iexact PR
  -- the two reads
  unfold leftPay landedPay accHeld landHeld
  iapply (wp_load noVariants (c : Thread nD τ) none Set.univ (m := accM) (View.setOn_subset_set _ _)) $$ Hacc; iintro Hacc
  iapply (wp_load noVariants (c : Thread nD τ) none Set.univ (m := landM) (View.setOn_subset_set _ _)) $$ Hland; iintro Hland
  rw [wp_ret]; imodintro
  iapply HΦ
  isplitr [HO]
  · unfold swapped accHeld landHeld
    isplitl [Hacc]; · iexact Hacc
    isplitl [Hland]; · iexact Hland
    isplitl [ZL]; · iexact ZL
    isplitl [ZD] <;> iassumption
  · iexists _; iexact HO

set_option maxHeartbeats 1600000 in
/-- The whole body at the last point: the last tile added, the swap, and the result stored. -/
theorem last_body (hlast : k0_cond2 i = 1#1) (hfresh : ¬ startsFresh i) (f : Acc F) (hf : addTile i c x w lab f = acc4 m c)
    (W : Waits sig Unit) (Φ : PUnit → sProp 𝕄) :
    iprop(tickets m K c ∗ cred (tallyAt (readyCell c) () 1) ∗ cred (tallyAt (landedCell c) () credit) ∗ levAts labels rank
        ∗ accHeld c f ∗ (∃ g, landHeld c g) ∗ owes (c : Thread nD τ) (owesAll c) W ∗ inputs M1 M2 M3 c x w lab
        ∗ (∃ X, owns (c : Thread nD τ) M4 fullShare X)
        ∗ ((swapped m c ∗ (∃ W', owes (c : Thread nD τ) 0 W') ∗ inputs M1 M2 M3 c x w lab ∗ owns (c : Thread nD τ) M4 fullShare (outAt m c)) -∗ Φ ⟨⟩))
      ⊢ wp frame (wpE (defs₀ (F := F)) noVariants (c : Thread nD τ) none) Set.univ
          (cc0_body i M1 h1 M2 h2 M3 h3 M4 h4 accM (Memref.isWhole_whole _) landM (Memref.isWhole_whole _) cc0_scratch2 cc0_scratch3) Φ := by
  rw [cc0_body_eq_skeleton]; unfold cc0_body_skel
  rw [wp_bind]
  iintro ⟨Ht, CR, CD, Hord, Ha, Hland, HO, Hin, ⟨%X4, H4⟩, HΦ⟩
  iapply (first_part i M1 h1 M2 h2 M3 h3 M4 h4 c x w lab f f (.inr ⟨hfresh, rfl⟩))
  isplitl [Ha]; · iexact Ha
  isplitl [Hin]; · iexact Hin
  iintro ⟨Ha, Hin⟩
  dsimp only
  rw [dif_pos hlast]
  simp only [Prog.lift, Prog.bind_op, Prog.bind_ret, Prog.pure_eq_ret]
  unfold accHeld
  iapply (wp_load noVariants (c : Thread nD τ) none Set.univ (m := accM) (View.setOn_subset_set _ _)) $$ Ha; iintro Ha
  iapply (wp_load noVariants (c : Thread nD τ) none Set.univ (m := accM) (View.setOn_subset_set _ _)) $$ Ha; iintro Ha
  iapply (wp_store noVariants (c : Thread nD τ) none Set.univ (m := accM) (r := hitCol) (Mk := Finset.univ) (by rw [acc_set]; exact Finset.subset_univ _)) $$ Ha; iintro Ha
  rw [wp_bind]
  iapply (second_part m i M1 h1 M2 h2 M3 h3 M4 h4 c K hlast _ W)
  isplitl [Ht]; · iexact Ht
  isplitl [CR]; · iexact CR
  isplitl [CD]; · iexact CD
  isplitl [Hord]; · iexact Hord
  isplitl [Ha]
  · rw [← hf]; unfold accHeld addTile; iexact Ha
  isplitl [Hland]; · iexact Hland
  isplitl [HO]; · iexact HO
  iintro ⟨Hs, HO⟩
  unfold swapped accHeld landHeld owns
  icases Hs with ⟨Ha, Hl, Hz⟩
  icases H4 with ⟨%f4, %e4, H4⟩
  iapply (wp_load noVariants (c : Thread nD τ) none Set.univ (m := accM) (View.setOn_subset_set _ _)) $$ Ha; iintro Ha
  iapply (wp_load noVariants (c : Thread nD τ) none Set.univ (m := landM) (View.setOn_subset_set _ _)) $$ Hl; iintro Hl
  iapply (wp_load noVariants (c : Thread nD τ) none Set.univ (m := M4) (View.setOn_subset_set _ _)) $$ H4; iintro H4
  iapply (wp_store noVariants (c : Thread nD τ) none Set.univ (m := M4) (r := Rect.unit ![0] ![512] inb_S512_S512_0) (Mk := Finset.univ) (by rw [h4.set_eq_univ]; exact Finset.subset_univ _)) $$ H4; iintro H4
  rw [wp_ret]; imodintro
  iapply HΦ
  isplitl [Ha Hl Hz]
  · isplitl [Ha]; · iexact Ha
    isplitl [Hl]; · iexact Hl
    iexact Hz
  isplitl [HO]; · iexact HO
  isplitl [Hin]; · iexact Hin
  iexists _
  isplitr
  rotate_left
  · iexact H4
  · ipureintro; exact read_after_store M4 zeros1 _ _ _

end Parts

end Cert.Xent

end
-- ==== Proof.Obligation.lean ====
/-
# The pipeline's obligation

What the pipeline keeps between points on device `c`: the accumulator as it then stands, the landing buffer, and until the
last point all the swap needs; after the last point both accumulators, and the swap's three counters back at zero.
With that, each of the four points' bodies is one of the two lemmas of the body's module.
-/
module

public import proofs.«01_k».proof.Proof.Body

@[expose] public section

noncomputable section

namespace Cert.Xent

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Both ℕ

variable (m : (ℓ : Loc nD τ sig) → Buf (Elt F) ℓ)

/-- What device `c` holds before its first point; -/
def atStart (c : Dev nD) : sProp 𝕄 := iprop(ready m c ∗ (∃ f, accHeld c f) ∗ ∃ g, landHeld c g)
/-- before a later point, its accumulator at `f`; -/
def between (c : Dev nD) (f : Acc F) : sProp 𝕄 := iprop(ready m c ∗ accHeld c f ∗ ∃ g, landHeld c g)

/-- The staging buffers' contents, the invariant and the debts, point by point. -/
def data (_ : Fin 1) (c : Dev nD) : Dat τ (Elt F) Unit ℕ Both ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => outAt m c
  Φ t := match t with
    | ⟨0, _⟩ => atStart m c
    | ⟨1, _⟩ => between m c (acc1 m c)
    | ⟨2, _⟩ => between m c (acc2 m c)
    | ⟨3, _⟩ => between m c (acc3 m c)
    | ⟨_ + 4, _⟩ => swapped m c
  q _ := fullShare
  owed t := match t with
    | ⟨0, _⟩ => owesAll c
    | ⟨1, _⟩ => owesAll c
    | ⟨2, _⟩ => owesAll c
    | ⟨3, _⟩ => owesAll c
    | ⟨_ + 4, _⟩ => 0

/-! ## The staged inputs -/

theorem before_x (c : Dev nD) (t : Fin cfg0.N) (d) : (data m 0 c).before (0 : Fin 4) t d = xAt m c t :=
  ((data m 0 c).before_in_eq_fetched (0 : Fin 4) rfl (fun _ => rfl) (fun _ _ _ => rfl) (fun t => rfl) t d).trans rfl
theorem before_w (c : Dev nD) (t : Fin cfg0.N) (d) : (data m 0 c).before (1 : Fin 4) t d = wAt m c t :=
  ((data m 0 c).before_in_eq_fetched (1 : Fin 4) rfl (fun _ => rfl) (fun _ _ _ => rfl) (fun t => rfl) t d).trans rfl
theorem before_lab (c : Dev nD) (t : Fin cfg0.N) (d) : (data m 0 c).before (2 : Fin 4) t d = labAt m c t :=
  ((data m 0 c).before_in_eq_fetched (2 : Fin 4) rfl (fun _ => rfl) (fun _ _ _ => rfl) (fun t => rfl) t d).trans rfl

/-- Before a point: the three inputs at their blocks, and the result's buffer as found. -/
theorem held_before (c : Dev nD) (t : Fin cfg0.N) :
    (bigSep Finset.univ fun w : Fin cfg0.W => (iprop(∃ d, owns (c : Thread nD τ) ((cfg0.win w).stage (cfg0.slots t w)) fullShare ((data m 0 c).before w t d)) : sProp 𝕄))
      ⊢ iprop(inputs (st0_0 t) (st0_1 t) (st0_2 t) c (xAt m c t) (wAt m c t) (labAt m c t)
          ∗ ∃ d, owns (c : Thread nD τ) (st0_3 t) fullShare ((data m 0 c).before (3 : Fin 4) t d)) := by
  refine (Entails.of_eq (bigSep_W0 _)).trans ?_
  unfold inputs
  iintro ⟨⟨%d0, H0⟩, ⟨%d1, H1⟩, ⟨%d2, H2⟩, H3⟩
  rw [before_x m c t d0, before_w m c t d1, before_lab m c t d2]
  isplitl [H0 H1 H2]
  · isplitl [H0]; · iexact H0
    isplitl [H1] <;> iassumption
  iexact H3

/-- After a point where the result's buffer is left alone. -/
theorem held_after_quiet (c : Dev nD) (t : Fin cfg0.N) (hi : cfg0.idle (3 : Fin 4) (cfg0.grid.coords t) = true) (hf : (cfg0.win (3 : Fin 4)).flush t = false) :
    iprop(inputs (st0_0 t) (st0_1 t) (st0_2 t) c (xAt m c t) (wAt m c t) (labAt m c t)
          ∗ ∃ d, owns (c : Thread nD τ) (st0_3 t) fullShare ((data m 0 c).before (3 : Fin 4) t d))
      ⊢ (bigSep Finset.univ fun w : Fin cfg0.W => ((data m 0 c).leavesExact w t : sProp 𝕄)) := by
  refine BIBase.Entails.trans ?_ (Entails.of_eq (bigSep_W0 _).symm)
  rw [(data m 0 c).leavesExact_idle (3 : Fin 4) t hi hf]
  unfold inputs
  iintro ⟨⟨H0, H1, H2⟩, H3⟩
  isplitl [H0]; · iexact H0
  isplitl [H1]; · iexact H1
  isplitl [H2]; · iexact H2
  iexact H3

/-- After the point that stores the result. -/
theorem held_after_last (c : Dev nD) (t : Fin cfg0.N) (hi : cfg0.idle (3 : Fin 4) (cfg0.grid.coords t) = false) :
    iprop(inputs (st0_0 t) (st0_1 t) (st0_2 t) c (xAt m c t) (wAt m c t) (labAt m c t)
          ∗ owns (c : Thread nD τ) (st0_3 t) fullShare (outAt m c))
      ⊢ (bigSep Finset.univ fun w : Fin cfg0.W => ((data m 0 c).leavesExact w t : sProp 𝕄)) := by
  refine BIBase.Entails.trans ?_ (Entails.of_eq (bigSep_W0 _).symm)
  rw [show (data m 0 c).leavesExact (3 : Fin 4) t = (owns (c : Thread nD τ) (st0_3 t) fullShare (outAt m c) : sProp 𝕄) from by
    unfold Dat.leavesExact; rw [hi]; rfl]
  unfold inputs
  iintro ⟨⟨H0, H1, H2⟩, H3⟩
  isplitl [H0]; · iexact H0
  isplitl [H1]; · iexact H1
  isplitl [H2]; · iexact H2
  iexact H3

/-! ## The points -/

/-- A point before the last, run by the pipeline: what is owed stays owed, the accumulator takes the point's tile. -/
theorem quiet_point (c : Dev nD) (t : Fin cfg0.N) (hq : ¬ k0_cond2 (grid0.coords t) = 1#1) (f g : Acc F)
    (hstart : startsFresh (grid0.coords t) ∧ g = k0_pay4 (F := F) ∨ ¬ startsFresh (grid0.coords t) ∧ g = f)
    (hi : cfg0.idle (3 : Fin 4) (cfg0.grid.coords t) = true) (hf : (cfg0.win (3 : Fin 4)).flush t = false) (R : sProp 𝕄) :
    iprop(accHeld c f ∗ R ∗ bigSep Finset.univ fun w : Fin cfg0.W => iprop(∃ d, owns (c : Thread nD τ) ((cfg0.win w).stage (cfg0.slots t w)) fullShare ((data m 0 c).before w t d)))
      ⊢ wp frame (wpE (defs₀ (F := F)) noVariants (c : Thread nD τ) none) Set.univ (bodyAt0 t)
          (fun _ => iprop(accHeld c (pointStep m c t g) ∗ R ∗ bigSep Finset.univ fun w : Fin cfg0.W => (data m 0 c).leavesExact w t)) := by
  iintro ⟨Ha, HR, Hb⟩
  ihave Hb := (held_before m c t) $$ Hb
  icases Hb with ⟨Hin, H3⟩
  iapply (quiet_body (grid0.coords t) (st0_0 t) _ (st0_1 t) _ (st0_2 t) _ (st0_3 t) _ c (xAt m c t) (wAt m c t) (labAt m c t) hq f g hstart)
  isplitl [Ha]; · iexact Ha
  isplitl [Hin]; · iexact Hin
  iintro ⟨Ha, Hin⟩
  isplitl [Ha]; · unfold pointStep; iexact Ha
  isplitl [HR]; · iexact HR
  iapply (held_after_quiet m c t hi hf)
  isplitl [Hin] <;> iassumption

/-- The last point. -/
theorem last_point (c : Dev nD) :
    iprop(between m c (acc3 m c) ∗ (∃ W, owes (c : Thread nD τ) (owesAll c) W)
        ∗ bigSep Finset.univ fun w : Fin cfg0.W => iprop(∃ d, owns (c : Thread nD τ) ((cfg0.win w).stage (cfg0.slots t0_3 w)) fullShare ((data m 0 c).before w t0_3 d)))
      ⊢ wp frame (wpE (defs₀ (F := F)) noVariants (c : Thread nD τ) none) Set.univ (bodyAt0 t0_3)
          (fun _ => iprop(swapped m c ∗ (∃ W, owes (c : Thread nD τ) 0 W) ∗ bigSep Finset.univ fun w : Fin cfg0.W => (data m 0 c).leavesExact w t0_3)) := by
  unfold between ready
  iintro ⟨⟨⟨⟨%K, Ht⟩, CR, CD, Hord⟩, Ha, Hland⟩, ⟨%W, HO⟩, Hb⟩
  ihave Hb := (held_before m c t0_3) $$ Hb
  icases Hb with ⟨Hin, ⟨%d3, H3⟩⟩
  iapply (last_body m (grid0.coords t0_3) (st0_0 t0_3) _ (st0_1 t0_3) _ (st0_2 t0_3) _ (st0_3 t0_3) _ c (xAt m c t0_3) (wAt m c t0_3) (labAt m c t0_3) K
    (by decide) (by decide) (acc3 m c) rfl W)
  isplitl [Ht]; · iexact Ht
  isplitl [CR]; · iexact CR
  isplitl [CD]; · iexact CD
  isplitl [Hord]; · iexact Hord
  isplitl [Ha]; · iexact Ha
  isplitl [Hland]; · iexact Hland
  isplitl [HO]; · iexact HO
  isplitl [Hin]; · iexact Hin
  isplitl [H3]; · iexists _; iexact H3
  iintro ⟨Hs, HO, Hin, H3⟩
  isplitl [Hs]; · iexact Hs
  isplitl [HO]; · iexact HO
  iapply (held_after_last m c t0_3 rfl)
  isplitl [Hin] <;> iassumption

/-- The record of waits is unbounded: any will do. -/
theorem any_record (c : Dev nD) (t : Fin (cfg0.N + 1)) (O : CellTallies nD τ sig Unit) (hO : (data m 0 c).owed t = O) :
    (data m 0 c).owesAt () t = (iprop(∃ W, owes (c : Thread nD τ) O W) : sProp 𝕄) := by
  unfold Dat.owesAt Pipeline.owesWithin
  rw [hO]
  have out : iprop(∃ W : Waits sig Unit, ⌜(↑W : Set (SemLoc sig × Unit)) ⊆ (data m 0 c).bound () t⌝ ∗ owes (c : Thread nD τ) O W) ⊢ (iprop(∃ W, owes (c : Thread nD τ) O W) : sProp 𝕄) := by
    iintro ⟨%W, -, H⟩; iexists W; iexact H
  have back : iprop(∃ W, owes (c : Thread nD τ) O W) ⊢ (iprop(∃ W : Waits sig Unit, ⌜(↑W : Set (SemLoc sig × Unit)) ⊆ (data m 0 c).bound () t⌝ ∗ owes (c : Thread nD τ) O W) : sProp 𝕄) := by
    iintro ⟨%W, H⟩; iexists W
    isplitr; · ipureintro; exact fun _ _ => Or.inl trivial
    iexact H
  exact Idealize.SL.BI.Entails.antisymm out back

/-- The obligation, at every point of every device. -/
theorem obligation (c : Dev nD) : BodyObligation (data (F := F) m 0 c) (defs₀ (F := F)) noVariants () Set.univ := fun t => by
  show iprop((data m 0 c).Φ t.castSucc ∗ (data m 0 c).owesAt () t.castSucc
        ∗ bigSep Finset.univ fun w : Fin cfg0.W => iprop(∃ d, owns (c : Thread nD τ) ((cfg0.win w).stage (cfg0.slots t w)) fullShare ((data m 0 c).before w t d)))
      ⊢ wp frame (wpE (defs₀ (F := F)) noVariants (c : Thread nD τ) none) Set.univ (bodyAt0 t)
          (fun _ => iprop((data m 0 c).Φ t.succ ∗ (data m 0 c).owesAt () t.succ ∗ bigSep Finset.univ fun w : Fin cfg0.W => (data m 0 c).leavesExact w t))
  have quiet : ∀ (f g : Acc F) (t : Fin cfg0.N), ¬ k0_cond2 (grid0.coords t) = 1#1 →
      (startsFresh (grid0.coords t) ∧ g = k0_pay4 (F := F) ∨ ¬ startsFresh (grid0.coords t) ∧ g = f) →
      cfg0.idle (3 : Fin 4) (cfg0.grid.coords t) = true → (cfg0.win (3 : Fin 4)).flush t = false →
      (data m 0 c).owed t.castSucc = owesAll c → (data m 0 c).owed t.succ = owesAll c →
      iprop(between m c f ∗ (data m 0 c).owesAt () t.castSucc
        ∗ bigSep Finset.univ fun w : Fin cfg0.W => iprop(∃ d, owns (c : Thread nD τ) ((cfg0.win w).stage (cfg0.slots t w)) fullShare ((data m 0 c).before w t d)))
      ⊢ wp frame (wpE (defs₀ (F := F)) noVariants (c : Thread nD τ) none) Set.univ (bodyAt0 t)
          (fun _ => iprop(between m c (pointStep m c t g) ∗ (data m 0 c).owesAt () t.succ ∗ bigSep Finset.univ fun w : Fin cfg0.W => (data m 0 c).leavesExact w t)) := by
    intro f g t hq hs hi hf ho ho'
    rw [any_record m c _ _ ho, any_record m c _ _ ho']
    unfold between
    refine BIBase.Entails.trans ?_ ((quiet_point m c t hq f g hs hi hf iprop(ready m c ∗ (∃ g, landHeld c g) ∗ ∃ W, owes (c : Thread nD τ) (owesAll c) W)).trans
      (wp_mono _ _ _ fun _ => ?_))
    · iintro ⟨⟨Hr, Ha, Hl⟩, Ho, Hb⟩
      isplitl [Ha]; · iexact Ha
      isplitl [Hr Hl Ho]
      · isplitl [Hr]; · iexact Hr
        isplitl [Hl] <;> iassumption
      iexact Hb
    · iintro ⟨Ha, ⟨Hr, Hl, Ho⟩, Hb⟩
      isplitl [Ha Hr Hl]
      · isplitl [Hr]; · iexact Hr
        isplitl [Ha] <;> iassumption
      isplitl [Ho] <;> iassumption
  rcases fin_N0 t with rfl | rfl | rfl | rfl
  · show iprop(atStart m c ∗ _) ⊢ wp frame (wpE (defs₀ (F := F)) noVariants (c : Thread nD τ) none) Set.univ (bodyAt0 t0_0)
          (fun _ => iprop(between m c (acc1 m c) ∗ _))
    unfold atStart
    iintro ⟨⟨Hr, ⟨%f, Ha⟩, Hl⟩, Hrest⟩
    iapply (quiet f (k0_pay4 (F := F)) t0_0 (by decide) (.inl ⟨by decide, rfl⟩) rfl rfl rfl rfl)
    isplitl [Hr Ha Hl]
    · unfold between
      isplitl [Hr]; · iexact Hr
      isplitl [Ha] <;> iassumption
    iexact Hrest
  · exact quiet (acc1 m c) (acc1 m c) t0_1 (by decide) (.inr ⟨by decide, rfl⟩) rfl rfl rfl rfl
  · exact quiet (acc2 m c) (acc2 m c) t0_2 (by decide) (.inr ⟨by decide, rfl⟩) rfl rfl rfl rfl
  · rw [any_record m c t0_3.castSucc (owesAll c) rfl, any_record m c t0_3.succ 0 rfl]
    exact last_point m c

end Cert.Xent

end
-- ==== Proof.Launch.lean ====
/-
# The launch

From any memory with zero counters the eight kernels run to the end. What the launch hands out is dealt so that each device
holds the duties it pays: of its partner's ready and landed cells, and of its own left cell. At the end the three inputs are as
they were, and the result array holds what the pipeline wrote back.
-/
module

public import proofs.«01_k».proof.Proof.Obligation
public import Idealize.ShloMosaic.Lib.Pipeline.CollectiveSegs

@[expose] public section

noncomputable section

namespace Cert.Xent

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Both ℕ

variable (m : (ℓ : Loc nD τ sig) → Buf (Elt F) ℓ) (ρ : Dev nD → PrngReg)

/-! ## The cells and the duties -/

theorem ownSem_facts : Pipeline.OwnSemFacts cfg0.spec ownSem := by decide

theorem whole_share (c : Dev nD) (w : Fin cfg0.W) : (data m 0 c).share w = fullShare := by unfold Dat.share; split <;> rfl

theorem swapSem_inj : Function.Injective swapSem := by
  intro k k' h
  fin_cases k <;> fin_cases k' <;> first | rfl | exact absurd h (by decide)

theorem swapCell_inj : Function.Injective (swapCell : Dev nD × Fin 3 → GSem nD τ sig) := by
  rintro ⟨c, k⟩ ⟨d, l⟩ h
  have hc : c = d := congrArg (fun g : GSem nD τ sig => g.1.1) h
  have hk : k = l := swapSem_inj (congrArg Prod.snd h)
  rw [hc, hk]

/-- All the swap's cells, -/
def allCells : Finset (GSem nD τ sig) := Finset.univ.map ⟨swapCell, swapCell_inj⟩
/-- and each one's duty in round 0. -/
def allDuties : Finset (GSem nD τ sig × ℕ × Unit) :=
  Finset.univ.map ⟨fun ck : Dev nD × Fin 3 => (swapCell ck, 0, ()), fun _ _ h => swapCell_inj (congrArg Prod.fst h)⟩

/-- What the launch starts from. -/
def start0 : Both :=
  (initOf (Pipeline.cells cfgs cellOf_inj) (Pipeline.launchToks cfgs cellOf_inj), initOf allCells allDuties)

omit [FloatOps F] in
theorem over3 (Φ : Fin 3 → sProp 𝕄) : bigSep Finset.univ Φ = iprop(Φ 0 ∗ Φ 1 ∗ Φ 2) :=
  bigSep_univ_eq_bigSepL [0, 1, 2] (by decide) (by decide) Φ

/-- A device's share of the start: its cells' round states, its positions and marks, its own cells' duties. -/
def dealt (c : Dev nD) : sProp 𝕄 :=
  iprop((bigSep Finset.univ fun k : Fin 3 => roundState swapPart (rounds m) (swapCell (c, k)) 0)
    ∗ (bigSep Finset.univ fun k : Fin 3 => iprop(atPos swapPart (swapCell (c, k)) 0 ∅ 0 ∗ reached swapPart (swapCell (c, k)) 0))
    ∗ (bigSep Finset.univ fun k : Fin 3 => dutyTok swapPart (swapCell (c, k)) 0 ()))

/-- What a device has once the cells are set up and the duties have changed hands. -/
def tickets' (c : Dev nD) : sProp 𝕄 := iprop(∃ K, tickets m K c)

theorem deal : BI.own (swapPart (F := F) (initOf allCells allDuties)) ⊢ (|==> bigSep Finset.univ (dealt m) : sProp 𝕄) := by
  have cells (Φ : GSem nD τ sig → sProp 𝕄) : bigSep allCells Φ = bigSep Finset.univ fun c : Dev nD => bigSep Finset.univ fun k : Fin 3 => Φ (swapCell (c, k)) := by
    unfold allCells; rw [bigSep_map, bigSep_univ_prod]; rfl
  have duties : bigSep allDuties (fun x => (dutyTok swapPart x.1 x.2.1 x.2.2 : sProp 𝕄))
      = bigSep Finset.univ fun c : Dev nD => bigSep Finset.univ fun k : Fin 3 => dutyTok swapPart (swapCell (c, k)) 0 () := by
    unfold allDuties; rw [bigSep_map, bigSep_univ_prod]; rfl
  iintro H
  imod (Rounds.fund swapPart (rounds m) allCells allDuties) $$ H with ⟨Hst, Hr, Hat, Htok⟩
  imodintro
  ihave Hst' := (Entails.of_eq (cells fun g => roundState swapPart (rounds m) g 0)) $$ Hst
  ihave Hat' := (Entails.of_eq (cells fun g => atPos swapPart g 0 ∅ 0)) $$ Hat
  ihave Hr' := (Entails.of_eq (cells fun g => reached swapPart g 0)) $$ Hr
  ihave Htok' := (Entails.of_eq duties) $$ Htok
  unfold dealt; simp only [bigSep_sep']
  isplitl [Hst']; · iexact Hst'
  isplitl [Hat' Hr']
  · isplitl [Hat'] <;> iassumption
  iexact Htok'

/-! ## Setting the cells up -/

omit [FloatOps F] in
theorem own_counters (c : Dev nD) : (Pipeline.ownSems0 (Ix := Unit) (Name := ℕ) (U := Both) (Lvl := ℕ) (Val := Elt F) (τ := τ) ownSem c : sProp 𝕄)
    = iprop(semVal (leftCell c) 0 ∗ semVal (landedCell c) 0) := by
  rw [Pipeline.ownSems0_eq_of_list c ownSem [0, 1] (by decide) (by decide)]; rfl
omit [FloatOps F] in
theorem barrier_counter (c : Dev nD) : (unscopedSems0 c : sProp 𝕄) = semVal (readyCell c) 0 := by
  unfold unscopedSems0; rw [bigSep_eq_bigSepL_of_eq [SemLoc.reg barrierSem] (by decide) (by decide)]; rfl

/-- A device's three counters at zero become its three cells. -/
theorem set_up (c : Dev nD) :
    iprop(Pipeline.ownSems0 (Ix := Unit) (Name := ℕ) (U := Both) (Lvl := ℕ) (Val := Elt F) (τ := τ) ownSem c ∗ unscopedSems0 c ∗ dealt m c)
      ⊢ |={Set.univ}=> iprop((bigSep Finset.univ fun k => iprop(∃ κ : ℕ, cellInv swapPart (rounds m) κ (swapCell (c, k))))
          ∗ (bigSep Finset.univ fun k => iprop(atPos swapPart (swapCell (c, k)) 0 ∅ 0 ∗ reached swapPart (swapCell (c, k)) 0))
          ∗ bigSep Finset.univ fun k : Fin 3 => dutyTok swapPart (swapCell (c, k)) 0 ()) := by
  have opened : iprop((bigSep Finset.univ fun k : Fin 3 => semVal (swapCell (c, k)) 0) ∗ bigSep Finset.univ fun k : Fin 3 => roundState swapPart (rounds m) (swapCell (c, k)) 0)
      ⊢ (|={Set.univ}=> bigSep Finset.univ fun k => iprop(∃ κ : ℕ, cellInv swapPart (rounds m) κ (swapCell (c, k))) : sProp 𝕄) := by
    rw [← bigSep_sep']
    exact (bigSep_mono fun k _ => (Rounds.body_intro swapPart (rounds m) (swapCell (c, k))).trans inv_alloc).trans (bigSep_fupd _ _)
  unfold dealt
  rw [own_counters, barrier_counter]
  iintro ⟨⟨HL, HD⟩, HB, Hst, Hat, Htok⟩
  imod opened $$ [HL HD HB Hst] with Hinv
  · isplitr [Hst]
    · rw [over3]
      isplitl [HB]; · iexact HB
      isplitl [HL] <;> iassumption
    · iexact Hst
  imodintro
  isplitl [Hinv]; · iexact Hinv
  isplitl [Hat] <;> iassumption

/-- What all devices share once every cell has a name. -/
def known (K : Dev nD × Fin 3 → ℕ) : sProp 𝕄 :=
  iprop((bigSep Finset.univ fun ck : Dev nD × Fin 3 => cellInv swapPart (rounds m) (K ck) (swapCell ck))
    ∗ bigSep Finset.univ fun ck : Dev nD × Fin 3 => reached swapPart (swapCell ck) 0)

instance known_persistent (K : Dev nD × Fin 3 → ℕ) : BI.Persistent (known m K) := by unfold known; infer_instance

theorem known_cell (K : Dev nD × Fin 3 → ℕ) (ck : Dev nD × Fin 3) : known m K ⊢ cellInv swapPart (rounds m) (K ck) (swapCell ck) := by
  have one : (bigSep Finset.univ fun ck : Dev nD × Fin 3 => (cellInv swapPart (rounds m) (K ck) (swapCell ck) : sProp 𝕄)) ⊢ cellInv swapPart (rounds m) (K ck) (swapCell ck) :=
    bigSep_elim (Finset.mem_univ ck)
  unfold known
  iintro ⟨H, -⟩
  iapply one; iexact H
theorem known_mark (K : Dev nD × Fin 3 → ℕ) (ck : Dev nD × Fin 3) : known m K ⊢ reached swapPart (swapCell ck) 0 := by
  have one : (bigSep Finset.univ fun ck : Dev nD × Fin 3 => (reached swapPart (swapCell ck) 0 : sProp 𝕄)) ⊢ reached swapPart (swapCell ck) 0 :=
    bigSep_elim (Finset.mem_univ ck)
  unfold known
  iintro ⟨-, H⟩
  iapply one; iexact H

/-- The duties a device pays. -/
def pays (c : Dev nD) : sProp 𝕄 :=
  iprop(dutyTok swapPart (readyCell (partner c)) 0 () ∗ dutyTok swapPart (leftCell c) 0 () ∗ dutyTok swapPart (landedCell (partner c)) 0 ())
/-- What stays with one device: its positions and the duties it pays. -/
def keeps (c : Dev nD) : sProp 𝕄 := iprop((bigSep Finset.univ fun k : Fin 3 => atPos swapPart (swapCell (c, k)) 0 ∅ 0) ∗ pays c)

theorem keeps_tickets (K : Dev nD × Fin 3 → ℕ) (c : Dev nD) : iprop(known m K ∗ keeps c) ⊢ tickets' m c := by
  unfold keeps pays tickets' tickets cellsKnown
  rw [over3]
  iintro ⟨#H, ⟨PR, PL, PD⟩, TR, TL, TD⟩
  iexists K
  isplitr
  · isplitr; · iapply (known_cell m K (c, 0)); iexact H
    isplitr; · iapply (known_cell m K (c, 1)); iexact H
    isplitr; · iapply (known_cell m K (c, 2)); iexact H
    isplitr; · iapply (known_cell m K (partner c, 0)); iexact H
    iapply (known_cell m K (partner c, 2)); iexact H
  isplitl [PR PL PD]
  · isplitl [PR]; · iexact PR
    isplitl [PL] <;> iassumption
  isplitr
  · isplitr; · iapply (known_mark m K (partner c, 0)); iexact H
    isplitr; · iapply (known_mark m K (partner c, 2)); iexact H
    isplitr; · iapply (known_mark m K (c, 1)); iexact H
    iapply (known_mark m K (c, 2)); iexact H
  isplitl [TR]; · iexact TR
  isplitl [TD] <;> iassumption

omit [FloatOps F] in
/-- The duties change hands between partners. -/
theorem duties_swapped : (bigSep Finset.univ fun c : Dev nD => bigSep Finset.univ fun k : Fin 3 => (dutyTok swapPart (swapCell (c, k)) 0 () : sProp 𝕄))
    ⊢ bigSep Finset.univ fun c : Dev nD => pays c := by
  unfold pays
  rw [bigSep_congr (s := Finset.univ) fun (c : Dev nD) _ => over3 (F := F) fun k => dutyTok swapPart (swapCell (c, k)) 0 (),
    bigSep_sep', bigSep_sep', bigSep_sep', bigSep_sep',
    bigSep_univ_equiv swapPerm (fun c : Dev nD => (dutyTok swapPart (swapCell (c, 0)) 0 () : sProp 𝕄)),
    bigSep_univ_equiv swapPerm (fun c : Dev nD => (dutyTok swapPart (swapCell (c, 2)) 0 () : sProp 𝕄))]
  exact BI.Entails.refl _

/-- Every device's share, over what all share. -/
theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  have all : bigSep Finset.univ (fun c : Dev nD => iprop(R ∗ Φ c)) ⊢ bigSep Finset.univ Ψ := bigSep_mono fun c _ => h c
  rw [bigSep_sep'] at all
  exact (sep_mono_left (BI.bigSep_of_persistent Finset.univ R)).trans all

/-- The step all devices take together: every cell set up, every duty with the device that pays it. -/
theorem set_up_all :
    (bigSep Finset.univ fun c => iprop(Pipeline.ownSems0 (Ix := Unit) (Name := ℕ) (U := Both) (Lvl := ℕ) (Val := Elt F) (τ := τ) ownSem c ∗ unscopedSems0 c ∗ dealt m c) : sProp 𝕄)
      ⊢ |={Set.univ}=> bigSep Finset.univ (tickets' m) := by
  have join : iprop((bigSep Finset.univ fun c : Dev nD => bigSep Finset.univ fun k : Fin 3 => atPos swapPart (swapCell (c, k)) 0 ∅ 0) ∗ bigSep Finset.univ fun c : Dev nD => pays c)
      ⊢ (bigSep Finset.univ keeps : sProp 𝕄) := Entails.of_eq (bigSep_sep' Finset.univ _ pays).symm
  refine BIBase.Entails.trans ((bigSep_mono fun c _ => set_up m c).trans (bigSep_fupd _ _)) (BI.fupd_mono ?_)
  rw [bigSep_sep', bigSep_sep', ← bigSep_univ_prod (fun ck : Dev nD × Fin 3 => iprop(∃ κ : ℕ, cellInv swapPart (rounds m) κ (swapCell ck))),
    bigSep_congr (s := Finset.univ) (fun (c : Dev nD) _ => bigSep_sep' Finset.univ (fun k : Fin 3 => (atPos swapPart (swapCell (c, k)) 0 ∅ 0 : sProp 𝕄)) (fun k => reached swapPart (swapCell (c, k)) 0)),
    bigSep_sep', ← bigSep_univ_prod (fun ck : Dev nD × Fin 3 => (reached swapPart (swapCell ck) 0 : sProp 𝕄))]
  iintro ⟨HI, ⟨Hat, #HR⟩, Htok⟩
  ihave HK := (BI.bigSep_exists_pi Finset.univ (fun (ck : Dev nD × Fin 3) (κ : ℕ) => (cellInv swapPart (rounds m) κ (swapCell ck) : sProp 𝕄))) $$ HI
  icases HK with ⟨%K, #HI⟩
  ihave Hd := (duties_swapped (F := F)) $$ Htok
  iapply (spread (R := known m K) fun c => keeps_tickets m K c)
  isplitr
  · unfold known; isplitl; · iexact HI
    iexact HR
  · iapply join
    isplitl [Hat] <;> iassumption

/-! ## The credits at launch -/

/-- What device `d` owes `c`'s ready cell: a unit if it is `c`'s partner. -/
theorem owed_ready (d c : Dev nD) : owesAll d (readyCell c) () = if d = partner c then 1 else 0 := by
  unfold owesAll owesData
  rw [Pi.add_apply, Finsupp.add_apply, tallyAt_ne_cell (fun h => landed_ne_barrier (congrArg Prod.snd h).symm), Finsupp.zero_apply, Nat.zero_add, tallyAt_apply]
  by_cases h : d = partner c
  · rw [if_pos h, if_pos ⟨by rw [h, partner_partner], rfl⟩]
  · rw [if_neg h, if_neg fun h' => h (eq_partner_comm (congrArg (fun g : GSem nD τ sig => g.1.1) h'.1))]

/-- And its landed cell: a transfer's credit. -/
theorem owed_landed (d c : Dev nD) : owesAll d (landedCell c) () = if d = partner c then credit else 0 := by
  unfold owesAll owesData
  rw [Pi.add_apply, Finsupp.add_apply, tallyAt_apply, tallyAt_ne_cell (fun h => landed_ne_barrier (congrArg Prod.snd h)), Finsupp.zero_apply, Nat.add_zero]
  by_cases h : d = partner c
  · rw [if_pos h, if_pos ⟨by rw [h, partner_partner], rfl⟩]
  · rw [if_neg h, if_neg fun h' => h (eq_partner_comm (congrArg (fun g : GSem nD τ sig => g.1.1) h'.1))]

theorem credit_ready (c : Dev nD) :
    tallyOn (readyCell c) (launchCredit (Pipeline.owing owesAll) 0 (readyCell c)) = (tallyAt (readyCell c) () 1 : CellTallies nD τ sig Unit) := by
  unfold tallyAt; refine congrArg _ (Finsupp.ext fun u => ?_); cases u
  rw [Pipeline.launchCredit_owing, Finsupp.single_eq_same, Finset.sum_congr rfl fun d _ => owed_ready d c,
    Finset.sum_ite_eq' Finset.univ (partner c) fun _ => 1, if_pos (Finset.mem_univ _)]

theorem credit_landed (c : Dev nD) :
    tallyOn (landedCell c) (launchCredit (Pipeline.owing owesAll) 0 (landedCell c)) = (tallyAt (landedCell c) () credit : CellTallies nD τ sig Unit) := by
  unfold tallyAt; refine congrArg _ (Finsupp.ext fun u => ?_); cases u
  rw [Pipeline.launchCredit_owing, Finsupp.single_eq_same, Finset.sum_congr rfl fun d _ => owed_landed d c,
    Finset.sum_ite_eq' Finset.univ (partner c) fun _ => credit, if_pos (Finset.mem_univ _)]

omit [FloatOps F] in
theorem credits (c : Dev nD) :
    (Pipeline.launchCred owesAll c : sProp 𝕄) ⊢ iprop(cred (tallyAt (readyCell c) () 1) ∗ cred (tallyAt (landedCell c) () credit)) := by
  unfold Pipeline.launchCred
  rw [bigSep_univ_at _ (SemLoc.reg barrierSem), credit_ready]
  refine sep_mono_right ?_
  rw [← credit_landed]
  exact bigSep_elim (Finset.mem_erase.mpr ⟨landed_ne_barrier, Finset.mem_univ _⟩)

/-! ## In and out -/

theorem make_ready (c : Dev nD) :
    iprop(Pipeline.unscopedRestP Pipeline.Prefetch.none cfg0.spec c (fun b => m ((c : Thread nD τ).loc b)) ∗ levAts labels rank
        ∗ Pipeline.launchCred owesAll c ∗ prngReg c (ρ c) ∗ tickets' m c)
      ⊢ |={Set.univ}=> iprop(ready m c ∗ emp) := by
  iintro ⟨-, Hord, Hcr, -, Ht⟩
  ihave Hc := (credits (F := F) c) $$ Hcr
  icases Hc with ⟨H1, H2⟩
  imodintro
  unfold ready tickets'
  isplitl
  · isplitl [Ht]; · iexact Ht
    isplitl [H1]; · iexact H1
    isplitl [H2] <;> iassumption
  · iempintro

theorem enter (c : Dev nD) :
    iprop(ready m c ∗ Pipeline.prefHeld Pipeline.Prefetch.none c (fun _ => fullShare.right) (fun k => k.elim0) ∗ Pipeline.scopedRest cfg0.spec c)
      ⊢ (data m 0 c).Φ 0 := by
  rw [show (data m 0 c).Φ 0 = atStart m c from rfl, scopedRest0_eq]
  unfold atStart
  iintro ⟨Hs, -, ⟨%f, Ha⟩, ⟨%g, Hl⟩⟩
  isplitl [Hs]; · iexact Hs
  isplitl [Ha]
  · iexists f; rw [accHeld_eq]; iexact Ha
  · iexists g; rw [landHeld_eq]; iexact Hl

theorem leave (c : Dev nD) :
    (data m 0 c).Φ (Fin.last cfg0.N) ⊢ iprop(unscopedSems0 c ∗ Pipeline.ownSems0 ownSem c ∗ Pipeline.scopedRest cfg0.spec c) := by
  rw [show (data m 0 c).Φ (Fin.last cfg0.N) = swapped m c from rfl, scopedRest0_eq, own_counters, barrier_counter]
  unfold swapped
  iintro ⟨Ha, Hl, ZL, ZD, ZR⟩
  isplitl [ZR]; · iexact ZR
  isplitl [ZL ZD]
  · isplitl [ZL] <;> iassumption
  isplitl [Ha]
  · iexists (acc4 m c); rw [← accHeld_eq]; iexact Ha
  · iexists (acc4 m (partner c)); rw [← landHeld_eq]; iexact Hl

theorem may_wait (c : Dev nD) : (levAts labels rank : sProp 𝕄) ⊢ Pipeline.cellsWaits cfgs (data m) () 0 c :=
  Pipeline.cellsWaits_intro cfgs (data m) () 0 c fun w s t =>
    mayWait_staging c _ (by fin_cases w <;> fin_cases s <;> decide) _ (by
      rcases t with ⟨_ | _ | _ | _ | _, ht⟩
      · exact Or.inl rfl
      · exact Or.inl rfl
      · exact Or.inl rfl
      · exact Or.inl rfl
      · exact Or.inr rfl)

/-! ## The run -/

/-- What a window's array holds at the end. -/
def finalArr (c : Dev nD) (w : Fin cfg0.W) : Buf (Elt F) ((cfg0.win w).arr.view.loc (c : Thread nD τ)) := (data m 0 c).arrAt w cfg0.N

set_option maxRecDepth 8000 in
/-- For any float values, from any memory with zero counters, every fair run ends with each device's arrays at `finalArr` and
    every counter at zero. -/
theorem run_main : θ_run defs (onTc (τ := τ) (main (F := F))) { mem := m, sem := fun _ => 0, prng := ρ }
    (fun r => (∀ c : Dev nD, ∀ w : Fin cfg0.W, r.2.mem ((cfg0.win w).arr.view.loc (c : Thread nD τ)) = finalArr m c w) ∧ r.2.sem = fun _ => 0) :=
  Pipeline.θ_run_region_owing_glob_pf (fun p => (cfgs p).toPCfg) (fun p => (cfgs p).toPCfg_adm) (data m) () cellOf_inj (0 : Fin 1)
    winFacts0.to₀ ownSem_facts (Pipeline.PreFacts.none _) stagingPart defs₀ noVariants m ρ main
    (hmain := fun _ => rfl)
    (hbody := obligation m) (hne := fun w => by fin_cases w <;> exact Nat.succ_pos _) (harr := arr_whole0) (hstage := stage_whole0) (hshare := whole_share m)
    (hdistinct := winFacts0.arr_inj)
    (O₀ := owesAll) (howed₀ := fun _ => rfl) (howedN := fun _ => rfl)
    (L := labels) (lv := rank) (hL := labels_off) (hwaits := may_wait m)
    (G := dealt m) (G' := tickets' m) (u₀ := start0)
    (hu₀ := by
      unfold start0
      iintro Hu
      ihave H := (ownU_pair _ _) $$ Hu
      icases H with ⟨HP, HX⟩
      imod (deal m) $$ HX with HG
      imodintro
      isplitl [HP] <;> iassumption)
    (hglob := set_up_all m)
    (hA := fun _ _ => rfl) (hpf := fun _ k => k.elim0)
    (X := ready m) (Y := fun c => unscopedSems0 c) (Z := fun _ => iprop(emp))
    (hX := make_ready m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The three inputs are as they were. -/
theorem final_input (c : Dev nD) : finalArr m c (0 : Fin 4) = m ((c : Thread nD τ).loc main_arg0)
    ∧ finalArr m c (1 : Fin 4) = m ((c : Thread nD τ).loc main_arg1) ∧ finalArr m c (2 : Fin 4) = m ((c : Thread nD τ).loc main_arg2) :=
  ⟨(data m 0 c).arrAt_in (0 : Fin 4) rfl _, (data m 0 c).arrAt_in (1 : Fin 4) rfl _, (data m 0 c).arrAt_in (2 : Fin 4) rfl _⟩

end Cert.Xent

end
-- ==== Proof.Result.lean ====
/-
# What the result array holds

The result's block is the whole array at every grid point, and only the last point writes it back. So the array ends holding
what that point left in the block: the device's losses.
-/
module

public import proofs.«01_k».proof.Proof.Launch

@[expose] public section

noncomputable section

namespace Cert.Xent

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The result's one block starts at the array's start. -/
theorem start_zero : (fun a => win0_3.index t0_3 a * main_v1.ty.shape.size a) = fun _ => 0 :=
  funext fun a => by fin_cases a; decide

/-- The last point writes the losses back, -/
theorem last_flush (c : Dev nD) (t : Fin cfg0.N) (ht : (cfg0.win 3).flush t = true) :
    (data m 0 c).flushed 3 t = ((cfg0.win 3).blk t).view.read (Elt F) (outAt m c) := by
  have last : t.val = 3 := by
    have h := (flush0_3 t).mp ht
    have hb : t.val < 4 := lt_of_lt_of_eq t.isLt N_0
    omega
  obtain rfl : t = t0_3 := Fin.ext last
  exact (Memref.read_access_unit_zero (Elt F) main_v1 start_zero (fun a => by rw [congrFun start_zero a]; simp) (outAt m c)).symm

/-- and its block is all of the array. -/
theorem last_covers (i : S512.Idx) : i ∈ ((cfg0.win 3).blk t0_3).view.set := by
  show i ∈ ((View.whole main_v1).slice (win0_3.rect t0_3)).set
  rw [View.set_slice_whole, Rect.mem_set_unit]
  intro a
  have first : win0_3.index t0_3 a * win0_3.size a = 0 := congrFun start_zero a
  have whole : win0_3.xsize (grid0.coords t0_3) a = S512.size a := by fin_cases a; decide +kernel
  show win0_3.index t0_3 a * win0_3.size a ≤ (i a : ℕ) ∧ (i a : ℕ) < win0_3.index t0_3 a * win0_3.size a + win0_3.xsize (grid0.coords t0_3) a
  rw [first, whole]
  exact ⟨Nat.zero_le _, by simpa using (i a).isLt⟩

/-- THE RESULT ARRAY AFTER THE RUN. -/
theorem final_result (c : Dev nD) : finalArr m c 3 = outAt m c :=
  (data m 0 c).arrAt_eq_of_cover 3 (outAt m c) (last_flush m c) fun i => ⟨t0_3, (flush0_3 t0_3).mpr rfl, last_covers i⟩

/-- THE RUN, READ: the result, the three arguments, and every counter. -/
theorem run_read : θ_run (defs (F := F)) (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0 :=
  (θ_run defs _ _).mono (fun _ h => ⟨fun c => ⟨(h.1 c 3).trans (final_result m c), (h.1 c 0).trans (final_input m c).1,
    (h.1 c 1).trans (final_input m c).2.1, (h.1 c 2).trans (final_input m c).2.2⟩, h.2⟩) (run_main m ρ)

/-- The same run without the result: the frame. -/
theorem run_frame : θ_run (defs (F := F)) (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0 :=
  (θ_run defs _ _).mono (fun _ h => ⟨fun c => (h.1 c).2, h.2⟩) (run_read m ρ)

end Cert.Xent

end
-- ==== Proof.Loss.lean ====
/-
# The loss over the real numbers

The mathematics both programs compute, away from either. A row of scores has 16384 entries; its loss is the logarithm of the
sum of the scores' exponentials, less the label's score.

Three facts join the two programs. Subtracting any real number from all scores before the exponentials, and adding it back
after the logarithm, changes nothing: the reference subtracts the row's maximum, the kernel nothing. The sum over all
16384 columns is the sum over two halves of four tiles of 2048 columns. And the sum over all columns of the score where the
column is the label, zero elsewhere, is the label's score.
-/
module

public import Idealize.ShloMosaic.PureOps.Ideal.Laws

@[expose] public section

noncomputable section

namespace Cert.Xent

open scoped BigOperators

/-- The score of column `k` in row `r`. -/
def score (X : Fin 512 → Fin 1024 → ℝ) (W : Fin 1024 → Fin 16384 → ℝ) (r : Fin 512) (k : Fin 16384) : ℝ :=
  ∑ d, X r d * W d k

/-- The loss of row `r`. -/
def loss (X : Fin 512 → Fin 1024 → ℝ) (W : Fin 1024 → Fin 16384 → ℝ) (lab : Fin 512 → Fin 16384) (r : Fin 512) : ℝ :=
  Real.log (∑ k, Real.exp (score X W r k)) - score X W r (lab r)

/-- A finite sum of reals is the same sum among the extended reals. -/
theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-- A sum of products of reals likewise. -/
theorem coe_sum_mul {ι : Type*} [Fintype ι] (f g : ι → ℝ) : ∑ i, (f i : EReal) * (g i : EReal) = ((∑ i, f i * g i : ℝ) : EReal) := by
  rw [coe_sum]
  exact Finset.sum_congr rfl fun i _ => (EReal.coe_mul _ _).symm

/-- A sum of exponentials over a nonempty range is positive. -/
theorem sum_exp_pos {ι : Type*} [Fintype ι] [Nonempty ι] (l : ι → ℝ) : 0 < ∑ k, Real.exp (l k) :=
  Finset.sum_pos (fun _ _ => Real.exp_pos _) Finset.univ_nonempty

/-- Shifting every score by `M` inside and back outside changes nothing. -/
theorem log_sum_exp_shift {ι : Type*} [Fintype ι] [Nonempty ι] (l : ι → ℝ) (M : ℝ) :
    M + Real.log (∑ k, Real.exp (l k - M)) = Real.log (∑ k, Real.exp (l k)) := by
  have h : ∑ k, Real.exp (l k) = Real.exp M * ∑ k, Real.exp (l k - M) := by
    rw [Finset.mul_sum]
    refine Finset.sum_congr rfl fun k _ => ?_
    rw [← Real.exp_add, add_sub_cancel]
  rw [h, Real.log_mul (Real.exp_pos M).ne' (sum_exp_pos fun k => l k - M).ne', Real.log_exp]

/-- The maximum, from minus infinity, of real numbers over a nonempty finite set is some real number. -/
theorem fold_max_real {ι : Type*} (s : Finset ι) (hs : s.Nonempty) (v : ι → EReal) (l : ι → ℝ) (hv : ∀ i, v i = (l i : EReal)) :
    ∃ M : ℝ, s.fold max (⊥ : EReal) v = (M : EReal) := by
  classical
  induction hs using Finset.Nonempty.cons_induction with
  | singleton a => exact ⟨l a, by rw [Finset.fold_singleton, hv, max_bot_right]⟩
  | cons a s ha hs ih =>
    obtain ⟨M, hM⟩ := ih
    exact ⟨max (l a) M, by rw [Finset.fold_cons, hM, hv]; exact EReal.coe_strictMono.monotone.map_max.symm⟩

/-- Column `j` of tile `t` of half `y`. -/
def column (y : Fin 2) (t : Fin 4) (j : Fin 2048) : Fin 16384 :=
  ⟨y.val * 8192 + t.val * 2048 + j.val, by omega⟩

/-- The columns are the columns of the tiles of the halves. -/
theorem sum_columns {M : Type*} [AddCommMonoid M] (f : Fin 16384 → M) :
    ∑ k, f k = ∑ y : Fin 2, ∑ t : Fin 4, ∑ j : Fin 2048, f (column y t j) := by
  rw [← Equiv.sum_comp (finProdFinEquiv (m := 2) (n := 8192)) f, Fintype.sum_prod_type]
  refine Finset.sum_congr rfl fun y _ => ?_
  rw [← Equiv.sum_comp (finProdFinEquiv (m := 4) (n := 2048)) (fun k => f (finProdFinEquiv (m := 2) (n := 8192) (y, k))), Fintype.sum_prod_type]
  refine Finset.sum_congr rfl fun t _ => Finset.sum_congr rfl fun j _ => congrArg f (Fin.ext ?_)
  show (j.val + 2048 * t.val) + 8192 * y.val = y.val * 8192 + t.val * 2048 + j.val
  omega

/-- One half's part of the sum of exponentials, -/
def halfSum (s : Fin 16384 → ℝ) (y : Fin 2) : ℝ := ∑ t : Fin 4, ∑ j : Fin 2048, Real.exp (s (column y t j))
/-- and its part of the label's score. -/
def halfHit (s : Fin 16384 → ℝ) (lab : Fin 16384) (y : Fin 2) : ℝ :=
  ∑ t : Fin 4, ∑ j : Fin 2048, if column y t j = lab then s (column y t j) else 0

/-- The two halves together, -/
theorem halfSum_total (s : Fin 16384 → ℝ) : halfSum s 0 + halfSum s 1 = ∑ k, Real.exp (s k) := by
  rw [sum_columns, Fin.sum_univ_two]; rfl
/-- for the label's score too. -/
theorem halfHit_total (s : Fin 16384 → ℝ) (lab : Fin 16384) : halfHit s lab 0 + halfHit s lab 1 = s lab := by
  have h : ∑ k, (if k = lab then s k else 0) = s lab := by simp
  rw [← h, sum_columns, Fin.sum_univ_two]; rfl

/-- So the loss from a half and the other half, in either order. -/
theorem loss_of_halves (X : Fin 512 → Fin 1024 → ℝ) (W : Fin 1024 → Fin 16384 → ℝ) (lab : Fin 512 → Fin 16384) (r : Fin 512)
    (y y' : Fin 2) (h : y' ≠ y) :
    Real.log (halfSum (score X W r) y + halfSum (score X W r) y') - (halfHit (score X W r) (lab r) y + halfHit (score X W r) (lab r) y')
      = loss X W lab r := by
  unfold loss
  rw [← halfSum_total, ← halfHit_total (score X W r) (lab r)]
  obtain ⟨rfl, rfl⟩ | ⟨rfl, rfl⟩ : (y = 0 ∧ y' = 1) ∨ (y = 1 ∧ y' = 0) := by omega
  · rfl
  · rw [add_comm (halfSum _ 1), add_comm (halfHit _ _ 1)]

/-- The exponentials of one half have a positive sum. -/
theorem halfSum_pos (s : Fin 16384 → ℝ) (y : Fin 2) : 0 < halfSum s y :=
  Finset.sum_pos (fun _ _ => sum_exp_pos _) Finset.univ_nonempty

end Cert.Xent

end
-- ==== Proof.Tile.lean ====
/-
# What one grid point adds

One grid point multiplies the activations by one tile of the vocabulary matrix and reduces the tile of scores along its 2048
columns in two ways: to the sum of the exponentials, and to the sum of the scores whose column is the row's label. Here
both are read at a row, over the real numbers. The column a tile entry stands for is worked out by the kernel in 32-bit
words, from the device's number, the grid point and the position in the tile; all of it stays far below the words' range.
-/
module

public import proofs.«01_k».proof.Proof.Loss
public import proofs.«01_k».proof.Proof.Exchange
public import Idealize.ShloMosaic.Lib.Pipeline.Value
public import Idealize.ShloMosaic.Lib.ValueIdx

@[expose] public section

noncomputable section

namespace Cert.Xent

open Cert.KernelIdeal Cert.KernelIdeal.Gen Idealize.ShloMosaic Idealize.ShloMosaic.ValueIdx
open scoped BigOperators

/-- The half of the vocabulary that device `c` holds: its `y` coordinate. -/
def half (c : Dev nD) : Fin 2 := ⟨(c.val / 2) % 2, Nat.mod_lt _ Nat.two_pos⟩

/-- Partners hold different halves. -/
theorem half_partner (c : Dev nD) : half (partner c) ≠ half c := by revert c; decide

/-- The kernel's word for it. -/
theorem half_word (c : Dev nD) : Scalar.remsi (Scalar.divsi (Dev.word c) 2#32) 2#32 = BitVec.ofNat 32 (half c).val := by
  revert c; decide

/-- The kernel's word for a column. -/
theorem column_word (c : Dev nD) (t : Fin 4) (j : Fin 2048) :
    IntOp.addi (IntOp.addi (BitVec.ofNat 32 j.val) (Scalar.muli (BitVec.ofNat 32 t.val) 2048#32))
      (Scalar.muli (Scalar.remsi (Scalar.divsi (Dev.word c) 2#32) 2#32) 8192#32)
      = BitVec.ofNat 32 (column (half c) t j).val := by
  rw [half_word]
  generalize half c = y
  apply BitVec.eq_of_toNat_eq
  show ((BitVec.ofNat 32 j.val + BitVec.ofNat 32 t.val * 2048#32) + BitVec.ofNat 32 y.val * 8192#32).toNat
    = (BitVec.ofNat 32 (y.val * 8192 + t.val * 2048 + j.val)).toNat
  simp only [BitVec.toNat_add, BitVec.toNat_mul, BitVec.toNat_ofNat]
  omega

/-- Two columns' words are equal exactly when the columns are. -/
theorem column_words_eq (a b : Fin 16384) :
    IntOp.cmpi .eq (BitVec.ofNat 32 a.val) (BitVec.ofNat 32 b.val) = if a = b then 1#1 else 0#1 := by
  by_cases h : a = b
  · subst h; simp [IntOp.cmpi]
  · rw [if_neg h]
    have hne : BitVec.ofNat 32 a.val ≠ BitVec.ofNat 32 b.val := fun e => h (Fin.ext (by
      have := congrArg BitVec.toNat e
      simp only [BitVec.toNat_ofNat] at this
      omega))
    simp only [IntOp.cmpi]
    rw [beq_eq_false_iff_ne.mpr hne]; rfl

section Values

variable {X : Fin 512 → Fin 1024 → ℝ} {W : Fin 1024 → Fin 16384 → ℝ} {lab : Fin 512 → Fin 16384}
variable {x : Vec Ideal S512x1024 .bf16} {w : Vec Ideal S1024x2048 .bf16} {l : Vec Ideal S512 .i32}
variable {y : Fin 2} {t : Fin 4}

/-- A tile's scores. -/
theorem tile_score (hx : ∀ r d, x (ix2 r d) = ((X r d : ℝ) : EReal)) (hw : ∀ d j, w (ix2 d j) = ((W d (column y t j) : ℝ) : EReal))
    (r : Fin 512) (j : Fin 2048) : k0_pay5 x w (ix2 r j) = ((score X W r (column y t j) : ℝ) : EReal) := by
  unfold k0_pay5
  simp only [shapeCast_self, matmul]
  rw [Ideal.matmul_constant_zero_apply, ← Equiv.sum_comp (contrEquiv1 dot_S512x1024_S1024x2048_S512x2048_1_0_0_1_n_n 1024 rfl rfl).symm]
  refine (Finset.sum_congr rfl fun d _ => ?_).trans (coe_sum_mul (fun d => X r d) (fun d => W d (column y t j)))
  have hd := contrEquiv1_symm_val dot_S512x1024_S1024x2048_S512x2048_1_0_0_1_n_n 1024 rfl rfl d
  generalize (contrEquiv1 dot_S512x1024_S1024x2048_S512x2048_1_0_0_1_n_n 1024 rfl rfl).symm d = q at hd ⊢
  have el : dot_S512x1024_S1024x2048_S512x2048_1_0_0_1_n_n.lhsIdx (ix2 r j) q = ix2 r d := funext fun a => Fin.ext (by
    match a with
    | ⟨0, _⟩ => rfl
    | ⟨1, _⟩ => exact (DotDims.lhsIdx_val_of_single _ rfl _ _).trans hd)
  have er : dot_S512x1024_S1024x2048_S512x2048_1_0_0_1_n_n.rhsIdx (ix2 r j) q = ix2 d j := funext fun a => Fin.ext (by
    match a with
    | ⟨0, _⟩ => exact (DotDims.rhsIdx_val_of_single _ rfl _ _).trans hd
    | ⟨1, _⟩ => rfl)
  rw [el, er, hx, hw]

/-- A row sum of a tile. -/
theorem row_sum (f : FVec Ideal S512x2048 .f32) (g : Fin 2048 → ℝ) (r : Fin 512) (hf : ∀ j, f (ix2 r j) = ((g j : ℝ) : EReal)) :
    shapeCast S512x1 (multiReduction .add [1] S512 f 0x00000000#32 reduces_S512x2048_S512 (.inl rfl) rfl) shapeCasts_S512_S512x1 (ix2 r (0 : Fin 1))
      = ((∑ j, g j : ℝ) : EReal) := by
  rw [shapeCast_apply _ shapeCasts_S512_S512x1 (ix2 r (0 : Fin 1)) (ix1 r)
    (by rw [Shape.rowMajor_val_two, Shape.rowMajor_val_one]; show r.val = r.val * 1 + 0; omega)]
  refine (Ideal.multiReduction_add_single f _ reduces_S512x2048_S512 (.inl rfl) rfl (ix1 r)).trans ?_
  rw [coe_sum]
  refine Finset.sum_congr rfl fun j _ => Eq.trans (congrArg f (funext fun a => Fin.ext ?_)) (hf j)
  match a with
  | ⟨0, _⟩ => rfl
  | ⟨1, _⟩ => rfl

/-- A tile's exponentials, added to what was there. -/
theorem tile_sum (hx : ∀ r d, x (ix2 r d) = ((X r d : ℝ) : EReal)) (hw : ∀ d j, w (ix2 d j) = ((W d (column y t j) : ℝ) : EReal))
    (s : Vec Ideal S512x1 .f32) (r : Fin 512) (b : ℝ) (hs : s (ix2 r (0 : Fin 1)) = (b : EReal)) :
    k0_pay7 x w s (ix2 r (0 : Fin 1)) = ((b + ∑ j, Real.exp (score X W r (column y t j)) : ℝ) : EReal) := by
  unfold k0_pay7
  simp only [shapeCast_self]
  rw [EReal.coe_add, ← hs, ← row_sum (exp (k0_pay5 x w)) (fun j => Real.exp (score X W r (column y t j))) r (fun j => by
    show FloatOps.exp (k0_pay5 x w (ix2 r j)) = _
    rw [tile_score hx hw]; rfl)]
  rfl

/-- The label's score, if its column is in the tile. -/
theorem tile_hit (i : grid0.Coords) (c : Dev nD) (hi : (i 0).val = t.val)
    (hx : ∀ r d, x (ix2 r d) = ((X r d : ℝ) : EReal)) (hw : ∀ d j, w (ix2 d j) = ((W d (column (half c) t j) : ℝ) : EReal))
    (hl : ∀ r, l (ix1 r) = BitVec.ofNat 32 (lab r).val) (r : Fin 512) :
    k0_pay6 i c x w l (ix2 r (0 : Fin 1))
      = ((∑ j, (if column (half c) t j = lab r then score X W r (column (half c) t j) else 0) : ℝ) : EReal) := by
  unfold k0_pay6
  simp only [shapeCast_self]
  refine row_sum _ (fun j => if column (half c) t j = lab r then score X W r (column (half c) t j) else 0) r fun j => ?_
  rw [select_apply, tile_score hx hw]
  have hb : broadcastTo S512x2048 (shapeCast S512x1 l shapeCasts_S512_S512x1) broadcasts_S512x1_S512x2048 (ix2 r j) = BitVec.ofNat 32 (lab r).val := by
    rw [broadcastTo_apply _ broadcasts_S512x1_S512x2048 (ix2 r j) (ix2 r (0 : Fin 1)) (fun a => by
      match a with
      | ⟨0, _⟩ => rfl
      | ⟨1, _⟩ => rfl),
      shapeCast_apply _ shapeCasts_S512_S512x1 (ix2 r (0 : Fin 1)) (ix1 r)
        (by rw [Shape.rowMajor_val_two, Shape.rowMajor_val_one]; show r.val = r.val * 1 + 0; omega), hl]
  have hc : addi (addi (iota .tc S512x2048 32 [1] iota_S512x2048_d1_w32) (broadcast S512x2048 (Scalar.muli (BitVec.ofNat 32 (i 0).val) 2048#32)))
      (broadcast S512x2048 (Scalar.muli (Scalar.remsi (Scalar.divsi (Dev.word c) 2#32) 2#32) 8192#32)) (ix2 r j) = BitVec.ofNat 32 (column (half c) t j).val := by
    rw [← column_word, hi]
    show IntOp.addi (IntOp.addi (BitVec.ofNat 32 (0 * 2048 + j.val)) _) _ = _
    rw [Nat.zero_mul, Nat.zero_add]; rfl
  have hz : (FloatOps.ofBits .f32 0x00000000#32 : Ideal .f32) = (0 : EReal) := Ideal.ofBits_zero_f32
  have hq := (congrArg₂ (IntOp.cmpi .eq) hc hb).trans (column_words_eq (column (half c) t j) (lab r))
  rw [broadcast_apply, hz]
  refine (congrArg (fun q => Scalar.select q _ _) hq).trans ?_
  by_cases h : column (half c) t j = lab r
  · rw [if_pos h, if_pos h]; rfl
  · rw [if_neg h, if_neg h]; rfl

end Values

end Cert.Xent

end
-- ==== Proof.Columns.lean ====
/-
# What the accumulator holds, and what is written

Column 0 and column 1 of the accumulator do not overlap, so a write to one leaves the other. Following the two columns
through the four grid points gives, per row, the device's half of the sum of exponentials and its half of the label's
score. The device's result is formed from its own pair of columns and its partner's, which is the other half, so it is the
row's loss on every device.
-/
module

public import proofs.«01_k».proof.Proof.Tile
public import Idealize.ShloMosaic.Lib.Exec.Geometry

@[expose] public section

noncomputable section

namespace Cert.Xent

open Cert.KernelIdeal Cert.KernelIdeal.Gen Idealize.ShloMosaic Idealize.ShloMosaic.TcCoe Idealize.ShloMosaic.ValueIdx
open scoped BigOperators

section Writes
variable {F : FTy → Type} [FloatOps F]

/-- The two columns share no element, -/
theorem columns_apart : Disjoint (accM.view.slice sumCol).set (accM.view.slice hitCol).set :=
  View.disjoint_slice_of_disj accM.view sumCol hitCol (by decide)

/-- so each write is seen in its own column -/
theorem getSum_putSum (f : Acc F) (w : FVec F S512x1 .f32) : getSum (putSum f w) = w :=
  View.read_write_univ (v := accM.view.slice sumCol) f w
theorem getHit_putHit (f : Acc F) (w : FVec F S512x1 .f32) : getHit (putHit f w) = w :=
  View.read_write_univ (v := accM.view.slice hitCol) f w
/-- and only there. -/
theorem getHit_putSum (f : Acc F) (w : FVec F S512x1 .f32) : getHit (putSum f w) = getHit f :=
  View.read_slice_write_slice_of_disjoint (Val := Elt F) (v := accM.view) hitCol sumCol f w Finset.univ columns_apart.symm
theorem getSum_putHit (f : Acc F) (w : FVec F S512x1 .f32) : getSum (putHit f w) = getSum f :=
  View.read_slice_write_slice_of_disjoint (Val := Elt F) (v := accM.view) sumCol hitCol f w Finset.univ columns_apart

end Writes

variable (m : (ℓ : Loc nD τ sig) → Buf (Elt Ideal) ℓ)

/-! ## The staged blocks -/

/-- The activations are staged whole, -/
theorem xAt_apply (c : Dev nD) (t : Fin cfg0.N) (r : Fin 512) (d : Fin 1024) :
    xAt m c t (ix2 r d) = m ((c : Thread nD τ).loc main_arg0) (ix2 r d) := by
  show m ((c : Thread nD τ).loc main_arg0) _ = _
  refine congrArg _ (funext fun a => Fin.ext ?_)
  match a with
  | ⟨0, _⟩ => show 0 * 512 + 1 * r.val = r.val; omega
  | ⟨1, _⟩ => show 0 * 1024 + 1 * d.val = d.val; omega

/-- the labels too, -/
theorem labAt_apply (c : Dev nD) (t : Fin cfg0.N) (r : Fin 512) :
    labAt m c t (ix1 r) = m ((c : Thread nD τ).loc main_arg2) (ix1 r) := by
  show m ((c : Thread nD τ).loc main_arg2) _ = _
  refine congrArg _ (funext fun a => Fin.ext ?_)
  match a with
  | ⟨0, _⟩ => show 0 * 512 + 1 * r.val = r.val; omega

/-- and the matrix by tiles of 2048 columns. -/
theorem wAt_apply (c : Dev nD) (t : Fin cfg0.N) (q : Fin 4) (hq : (grid0.coords t 0).val = q.val) (d : Fin 1024) (j : Fin 2048) :
    wAt m c t (ix2 d j) = m ((c : Thread nD τ).loc main_arg1) (ix2 d (⟨q.val * 2048 + j.val, by omega⟩ : Fin 8192)) := by
  show m ((c : Thread nD τ).loc main_arg1) _ = _
  refine congrArg _ (funext fun a => Fin.ext ?_)
  match a with
  | ⟨0, _⟩ => show 0 * 1024 + 1 * d.val = d.val; omega
  | ⟨1, _⟩ =>
    show (BitVec.ofNat 32 (grid0.coords t 0).val).toNat * 2048 + 1 * j.val = q.val * 2048 + j.val
    rw [hq, BitVec.toNat_ofNat]; omega

/-! ## Through the four points -/

/-- What device `c` holds, named over the reals: the activations, its half of the matrix, the labels. -/
structure Holds (X : Fin 512 → Fin 1024 → ℝ) (W : Fin 1024 → Fin 16384 → ℝ) (lab : Fin 512 → Fin 16384) (c : Dev nD) : Prop where
  acts : ∀ r d, m ((c : Thread nD τ).loc main_arg0) (ix2 (r : Fin 512) (d : Fin 1024)) = ((X r d : ℝ) : EReal)
  mat : ∀ (d : Fin 1024) (q : Fin 4) (j : Fin 2048),
    m ((c : Thread nD τ).loc main_arg1) (ix2 d (⟨q.val * 2048 + j.val, by omega⟩ : Fin 8192)) = ((W d (column (half c) q j) : ℝ) : EReal)
  labs : ∀ r, m ((c : Thread nD τ).loc main_arg2) (ix1 (r : Fin 512)) = BitVec.ofNat 32 (lab r).val

variable {m} {X : Fin 512 → Fin 1024 → ℝ} {W : Fin 1024 → Fin 16384 → ℝ} {lab : Fin 512 → Fin 16384} {c : Dev nD}

/-- An accumulator's two entries in row `r`. -/
abbrev Row (f : Acc Ideal) (r : Fin 512) (a b : ℝ) : Prop :=
  getSum f (ix2 r (0 : Fin 1)) = (a : EReal) ∧ getHit f (ix2 r (0 : Fin 1)) = (b : EReal)

/-- One point adds its tile to both. -/
theorem row_step (h : Holds m X W lab c) (t : Fin cfg0.N) (q : Fin 4) (hq : (grid0.coords t 0).val = q.val) (f : Acc Ideal) (r : Fin 512)
    (a b : ℝ) (hf : Row f r a b) :
    Row (pointStep m c t f) r (a + ∑ j, Real.exp (score X W r (column (half c) q j)))
      (b + ∑ j, if column (half c) q j = lab r then score X W r (column (half c) q j) else 0) := by
  have hx : ∀ r d, xAt m c t (ix2 r d) = ((X r d : ℝ) : EReal) := fun r d => (xAt_apply m c t r d).trans (h.acts r d)
  have hw : ∀ d j, wAt m c t (ix2 d j) = ((W d (column (half c) q j) : ℝ) : EReal) := fun d j => (wAt_apply m c t q hq d j).trans (h.mat d q j)
  have hl : ∀ r, labAt m c t (ix1 r) = BitVec.ofNat 32 (lab r).val := fun r => (labAt_apply m c t r).trans (h.labs r)
  unfold pointStep addTile
  refine ⟨?_, ?_⟩
  · rw [getSum_putHit, getSum_putSum]
    exact tile_sum hx hw _ r a hf.1
  · rw [getHit_putHit, getHit_putSum]
    unfold k0_pay1
    simp only [shapeCast_self]
    show FloatOps.addf (getHit f (ix2 r (0 : Fin 1))) (k0_pay6 (grid0.coords t) c (xAt m c t) (wAt m c t) (labAt m c t) (ix2 r (0 : Fin 1))) = _
    rw [tile_hit _ c hq hx hw hl, hf.2]
    exact (EReal.coe_add _ _).symm

/-- The zeros the first point starts from. -/
theorem row_zero (r : Fin 512) : Row (k0_pay4 (F := Ideal)) r 0 0 := by
  have hz : ∀ i, k0_pay4 (F := Ideal) i = (0 : EReal) := fun i => by
    unfold k0_pay4
    simp only [shapeCast_self]
    exact Ideal.ofBits_zero_f32
  exact ⟨hz (sumCol.toLoadRect.idx (ix2 r (0 : Fin 1))), hz (hitCol.toLoadRect.idx (ix2 r (0 : Fin 1)))⟩

/-- WHAT A DEVICE SENDS: its half of both sums. -/
theorem row_acc4 (h : Holds m X W lab c) (r : Fin 512) : Row (acc4 m c) r (halfSum (score X W r) (half c)) (halfHit (score X W r) (lab r) (half c)) := by
  have h1 := row_step h t0_0 0 rfl _ r _ _ (row_zero r)
  have h2 := row_step h t0_1 1 rfl _ r _ _ h1
  have h3 := row_step h t0_2 2 rfl _ r _ _ h2
  have h4 := row_step h t0_3 3 rfl _ r _ _ h3
  unfold acc4 acc3 acc2 acc1 halfSum halfHit
  rw [Fin.sum_univ_four, Fin.sum_univ_four]
  simpa only [zero_add] using h4

/-- WHAT A DEVICE WRITES: the loss of each row. -/
theorem out_loss (h : Holds m X W lab c) (h' : Holds m X W lab (partner c)) (r : Fin 512) :
    outAt m c (ix1 r) = ((loss X W lab r : ℝ) : EReal) := by
  obtain ⟨a1, b1⟩ := row_acc4 h r
  obtain ⟨a2, b2⟩ := row_acc4 h' r
  unfold outAt combine k0_pay2 k0_pay3
  rw [shapeCast_apply _ shapeCasts_S512x1_S512 (ix1 r) (ix2 r (0 : Fin 1))
    (by rw [Shape.rowMajor_val_two, Shape.rowMajor_val_one]; show r.val * 1 + 0 = r.val; omega)]
  show Ideal.log (getSum (acc4 m c) (ix2 r (0 : Fin 1)) + getSum (acc4 m (partner c)) (ix2 r (0 : Fin 1)))
    - (getHit (acc4 m c) (ix2 r (0 : Fin 1)) + getHit (acc4 m (partner c)) (ix2 r (0 : Fin 1))) = _
  rw [a1, a2, b1, b2, ← EReal.coe_add, ← EReal.coe_add, Ideal.log_coe,
    if_neg (not_le.mpr (add_pos (halfSum_pos _ _) (halfSum_pos _ _))), ← EReal.coe_sub, loss_of_halves _ _ _ _ _ _ (half_partner c)]

end Cert.Xent

end
-- ==== Proof.RefValue.lean ====
/-
# What the reference computes

On finite activations and a finite matrix, and labels that name columns, the reference's result is the loss of each row,
a real number. Its scores are sums of products of real numbers. Its row maximum is some real number, and which one does not
matter to the logarithm of the sum. Its two-index gather reads the row's own number and the label, both in range, so it
reads the label's score.
-/
module

public import proofs.«01_k».proof.Proof.Loss
public import proofs.«01_k».proof.Proof.Gen.ReferenceIdeal.Run
public import proofs.«01_k».proof.Proof.Gen.ReferenceIdeal.Read

@[expose] public section

noncomputable section

namespace Cert.Xent.Ref

open Cert.ReferenceIdeal Cert.ReferenceIdeal.Gen Cert.ReferenceIdeal.Read Idealize.ShloMosaic Idealize.ShloMosaic.ValueIdx
open scoped BigOperators

variable {X : Fin 512 → Fin 1024 → ℝ} {W : Fin 1024 → Fin 16384 → ℝ} {lab : Fin 512 → Fin 16384}
variable {x0 : (⟨S512x1024, .bf16⟩ : BufTy).Contents (Elt Ideal)} {x1 : (⟨S1024x16384, .bf16⟩ : BufTy).Contents (Elt Ideal)}
variable {x2 : (⟨S512, .i32⟩ : BufTy).Contents (Elt Ideal)}

/-- The scores. -/
theorem scores (hx : ∀ i, x0 i = ((X (i 0) (i 1) : ℝ) : EReal)) (hw : ∀ i, x1 i = ((W (i 0) (i 1) : ℝ) : EReal)) (i : S512x16384.Idx) :
    val_main_v0 (F := Ideal) x0 x1 i = ((score X W (i 0) (i 1) : ℝ) : EReal) := by
  rw [val_main_v0_apply]
  simp only [hx, hw]
  exact coe_sum_mul (fun d => X (i 0) d) (fun d => W d (i 1))

/-- The row maximum is some real number. -/
theorem row_max (hx : ∀ i, x0 i = ((X (i 0) (i 1) : ℝ) : EReal)) (hw : ∀ i, x1 i = ((W (i 0) (i 1) : ℝ) : EReal)) (r : S512.Idx) :
    ∃ M : ℝ, val_main_v1 (F := Ideal) x0 x1 r = (M : EReal) := by
  unfold val_main_v1
  rw [Host.reduce_eq_fold]
  have h0 : val_main_cst (F := Ideal) (Shape.Idx.first h_S_) = (⊥ : EReal) := by
    rw [val_main_cst_apply]; show Ideal.ofBits .f32 _ = _; simp [Ideal.ofBits, Ideal.ieee]
  rw [h0]
  refine fold_max_real _ ⟨idx_main_v6 r ⟨0, by omega⟩, ?_⟩ _ (fun i => score X W (i 0) (i 1)) (scores hx hw)
  exact Finset.mem_filter.mpr
    ⟨Finset.mem_univ _, funext fun a => Fin.ext (by match a with | ⟨0, _⟩ => rfl)⟩

/-- The sum of the exponentials of the scores less the row's maximum. -/
theorem shifted_sum (hx : ∀ i, x0 i = ((X (i 0) (i 1) : ℝ) : EReal)) (hw : ∀ i, x1 i = ((W (i 0) (i 1) : ℝ) : EReal)) (r : S512.Idx)
    (M : ℝ) (hM : val_main_v1 (F := Ideal) x0 x1 r = (M : EReal)) :
    val_main_v6 (F := Ideal) x0 x1 r = ((∑ k, Real.exp (score X W (r 0) k - M) : ℝ) : EReal) := by
  have h5 : ∀ k : Fin 16384, val_main_v5 (F := Ideal) x0 x1 (idx_main_v6 r k) = ((Real.exp (score X W (r 0) k - M) : ℝ) : EReal) := fun k => by
    have h3 : idx_main_v2 (idx_main_v3 (idx_main_v6 r k)) = r := funext fun a => by match a with | ⟨0, _⟩ => rfl
    rw [val_main_v5_apply, val_main_v4_apply, val_main_v3_apply, val_main_v2_apply, h3, hM, scores hx hw]
    show Ideal.exp ((score X W (r 0) k : EReal) - (M : EReal)) = _
    rw [← EReal.coe_sub, Ideal.exp_coe]
  rw [val_main_v6_apply, Finset.sum_congr rfl fun k _ => h5 k, val_main_cst_0_apply, coe_sum]
  show Ideal.ofBits .f32 _ + _ = _
  rw [Ideal.ofBits_zero_f32, zero_add]

/-- A row's maximum plus the logarithm of its shifted exponentials' sum is the logarithm of the plain sum. -/
theorem log_part (hx : ∀ i, x0 i = ((X (i 0) (i 1) : ℝ) : EReal)) (hw : ∀ i, x1 i = ((W (i 0) (i 1) : ℝ) : EReal)) (r : S512.Idx) :
    val_main_v10 (F := Ideal) x0 x1 r = ((Real.log (∑ k, Real.exp (score X W (r 0) k)) : ℝ) : EReal) := by
  have hr : idx_main_v2 (idx_main_v10 r) = r := funext fun a => Fin.ext (by match a with | ⟨0, _⟩ => exact Nat.div_one _)
  have hr' : idx_main_v7 (idx_main_v10 r) = r := hr
  obtain ⟨M, hM⟩ := row_max hx hw r
  rw [val_main_v10_apply, val_main_v9_apply, val_main_v2_apply, hr, hM, val_main_v8_apply, val_main_v7_apply, hr',
    shifted_sum hx hw r M hM, Ideal.hostUnary_log_def, Ideal.log_coe,
    if_neg (not_le.mpr (sum_exp_pos fun k => score X W (r 0) k - M)), Ideal.addf_def, ← EReal.coe_add, log_sum_exp_shift]

/-- A word below 2³¹ read signed is the number it was made from. -/
theorem toInt_ofNat_small (n : ℕ) (h : n < 2 ^ 31) : (BitVec.ofNat 32 n).toInt = n := by
  rw [BitVec.toInt_ofNat', Int.bmod_eq_of_le] <;> omega

/-- Such a word is not negative. -/
theorem not_negative (n : ℕ) (h : n < 2 ^ 31) : IntOp.cmpi .slt (BitVec.ofNat 32 n) 0#32 = 0#1 := by
  simp only [IntOp.cmpi]
  rw [BitVec.slt_eq_decide, toInt_ofNat_small n h]
  show BitVec.ofBool (decide ((n : ℤ) < 0)) = 0#1
  rw [decide_eq_false (by omega)]; rfl

/-- The index array's first column is the row's number, -/
theorem index_row (r : Fin 512) : val_main_v24 (F := Ideal) x2 (ix2 r (0 : Fin 2)) = BitVec.ofNat 32 r.val := by
  have h : val_main_v24 (F := Ideal) x2 (ix2 r (0 : Fin 2)) = val_main_v22 (F := Ideal) (ix2 r (0 : Fin 1)) := by
    unfold val_main_v24
    exact concatenate_pair_apply_left (s₁ := S512x1) (s₂ := S512x1) (t := S512x2) 1 _ _ concatenates_S512x1_S512x1_S512x2_d1 _ rfl
      (ix2 r (0 : Fin 1)) (fun b => by match b with | ⟨0, _⟩ => rfl | ⟨1, _⟩ => rfl)
  rw [h, val_main_v22_apply, val_main_v16_apply, val_main_v13_apply, val_main_v12_apply, val_main_c_apply, val_main_v11_apply]
  show Scalar.select (IntOp.cmpi .slt (BitVec.ofNat 32 r.val) 0#32) _ _ = _
  rw [not_negative _ (by omega)]; rfl

/-- its second the label. -/
theorem index_label (h2 : ∀ i, x2 i = BitVec.ofNat 32 (lab (i 0)).val) (r : Fin 512) :
    val_main_v24 (F := Ideal) x2 (ix2 r (1 : Fin 2)) = BitVec.ofNat 32 (lab r).val := by
  have h : val_main_v24 (F := Ideal) x2 (ix2 r (1 : Fin 2)) = val_main_v23 (F := Ideal) x2 (ix2 r (0 : Fin 1)) := by
    unfold val_main_v24
    exact concatenate_pair_apply_right (s₁ := S512x1) (s₂ := S512x1) (t := S512x2) 1 _ _ concatenates_S512x1_S512x1_S512x2_d1 _ rfl rfl
      (ix2 r (0 : Fin 1)) (fun b hb => by match b with | ⟨0, _⟩ => rfl | ⟨1, _⟩ => exact absurd rfl hb) rfl
  rw [h, val_main_v23_apply, val_main_v21_apply, val_main_v18_apply, val_main_v17_apply, val_main_c_2_apply, h2]
  show Scalar.select (IntOp.cmpi .slt (BitVec.ofNat 32 (lab r).val) 0#32) _ _ = _
  rw [not_negative _ (by omega)]; rfl

/-- The gather's dimension numbers. -/
abbrev picks : GatherDims S512x16384 S512x2 S512 := gather_S512x16384_S512x2_S512_n_01_n_n_01_1_11

/-- The gather starts, on the row axis, at the first component of the index array's row, -/
theorem starts_row (idx : IVec S512x2 32) (r : Fin 512) :
    picks.start (ix1 r) idx (0 : Fin 2) = min (idx (ix2 r (0 : Fin 2))).toInt.toNat (512 - 1) := by
  unfold GatherDims.start
  rw [dif_pos (show (0 : Fin 2) ∈ picks.startIndexMap by decide)]
  have h : picks.siIdx (ix1 r) ⟨List.idxOf (0 : Fin 2) picks.startIndexMap, by decide⟩ = ix2 r (0 : Fin 2) := by
    funext b; refine Fin.ext ?_
    match b with
    | ⟨0, _⟩ => rfl
    | ⟨1, _⟩ => rfl
  exact congrArg (fun q => min (idx q).toInt.toNat (512 - 1)) h

/-- and on the column axis at the second. -/
theorem starts_column (idx : IVec S512x2 32) (r : Fin 512) :
    picks.start (ix1 r) idx (1 : Fin 2) = min (idx (ix2 r (1 : Fin 2))).toInt.toNat (16384 - 1) := by
  unfold GatherDims.start
  rw [dif_pos (show (1 : Fin 2) ∈ picks.startIndexMap by decide)]
  have h : picks.siIdx (ix1 r) ⟨List.idxOf (1 : Fin 2) picks.startIndexMap, by decide⟩ = ix2 r (1 : Fin 2) := by
    funext b; refine Fin.ext ?_
    match b with
    | ⟨0, _⟩ => rfl
    | ⟨1, _⟩ => rfl
  exact congrArg (fun q => min (idx q).toInt.toNat (16384 - 1)) h

/-- Both axes are collapsed, so a start is the whole coordinate. -/
theorem only_start (idx : IVec S512x2 32) (r : Fin 512) (a : Fin 2) : (picks.operandIdx (ix1 r) idx a).val = picks.start (ix1 r) idx a := by
  show picks.start (ix1 r) idx a + picks.batchCoord (ix1 r) a + picks.offCoord (ix1 r) a = _
  rw [GatherDims.batchCoord_eq_zero _ _ _ List.not_mem_nil,
    GatherDims.offCoord_eq_zero _ _ _ (fun h => ((GatherDims.mem_sKept _ _).mp h).1 (by revert a; decide))]
  rfl

/-- The gather reads the row's number and the label off its index array and clamps neither. -/
theorem gathered (h2 : ∀ i, x2 i = BitVec.ofNat 32 (lab (i 0)).val) (r : Fin 512) :
    val_main_v25 (F := Ideal) x0 x1 x2 (ix1 r) = val_main_v0 (F := Ideal) x0 x1 (ix2 r (lab r)) := by
  unfold val_main_v25 Host.gather
  refine congrArg _ (funext fun a => Fin.ext ?_)
  match a with
  | ⟨0, _⟩ =>
    refine (only_start _ r 0).trans ?_
    rw [starts_row, index_row, toInt_ofNat_small _ (by omega), Int.toNat_natCast]
    show min r.val (512 - 1) = r.val
    omega
  | ⟨1, _⟩ =>
    refine (only_start _ r 1).trans ?_
    rw [starts_column, index_label h2, toInt_ofNat_small _ (by omega), Int.toNat_natCast]
    show min (lab r).val (16384 - 1) = (lab r).val
    omega

/-- THE REFERENCE'S RESULT: each row's loss. -/
theorem result (hx : ∀ i, x0 i = ((X (i 0) (i 1) : ℝ) : EReal)) (hw : ∀ i, x1 i = ((W (i 0) (i 1) : ℝ) : EReal))
    (h2 : ∀ i, x2 i = BitVec.ofNat 32 (lab (i 0)).val) (r : Fin 512) :
    val_main_v26 (F := Ideal) x0 x1 x2 (ix1 r) = ((loss X W lab r : ℝ) : EReal) := by
  rw [val_main_v26_apply, log_part hx hw, gathered h2, scores hx hw]
  exact (EReal.coe_sub _ _).symm

end Cert.Xent.Ref

end
-- ==== Proof.Equation.lean ====
/-
# The equation

The precondition says of each device's blocks that no entry is infinite and that every label names a column. Between them the
devices hold the whole matrix, so the whole arrays are real numbers and the labels are columns. Then the kernel's result and
the reference's are both the rows' losses.
-/
module

public import proofs.«01_k».proof.Proof.Columns
public import proofs.«01_k».proof.Proof.RefValue
public import proofs.«01_k».proof.Pre_in_range_KernelIdeal
public import Idealize.ShloMosaic.Lib.Layout

@[expose] public section

noncomputable section

namespace Cert.Xent

open Idealize.ShloMosaic Idealize.ShloMosaic.TcCoe Idealize.ShloMosaic.ValueIdx

/-! ## What the precondition says of an entry -/

/-- The format's infinity is above every real number. -/
theorem inf_top : (FloatOps.ofBits .bf16 0x7F80#16 : Ideal .bf16) = (⊤ : EReal) := by
  show Ideal.ofBits .bf16 0x7F80#16 = ⊤
  simp [Ideal.ofBits, Ideal.ieee]

/-- An entry whose magnitude is below infinity is a real number. -/
theorem real_of_below {v : EReal} (h : FloatOps.cmpf (F := Ideal) (φ := .bf16) .olt (FloatOps.hostAbsf (F := Ideal) (φ := .bf16) v) (FloatOps.ofBits .bf16 0x7F80#16) = 1#1) :
    ((v.toReal : ℝ) : EReal) = v := by
  rw [inf_top] at h
  have below : max v (-v) < (⊤ : EReal) := by
    by_contra hn
    have no : Ideal.cmp .olt (max v (-v)) ⊤ = 0#1 := by
      show BitVec.ofBool (decide (max v (-v) < ⊤)) = 0#1
      rw [decide_eq_false hn]; rfl
    exact absurd (no.symm.trans h) (by decide)
  refine EReal.coe_toReal (lt_of_le_of_lt (le_max_left _ _) below).ne fun hv => ?_
  have : (-v : EReal) < ⊤ := lt_of_le_of_lt (le_max_right _ _) below
  rw [hv] at this
  simp at this

/-- A word between 0 and 16384, read with a sign, is below 16384. -/
theorem column_of_between {v : BitVec 32} (h : IntOp.cmpi .sge v 0#32 &&& IntOp.cmpi .slt v 16384#32 = 1#1) : v.toNat < 16384 := by
  have both : BitVec.ofBool (BitVec.sle 0#32 v) &&& BitVec.ofBool (BitVec.slt v 16384#32) = 1#1 := h
  have low : BitVec.sle 0#32 v = true := by
    by_contra hn
    rw [Bool.not_eq_true] at hn
    rw [hn] at both
    exact absurd both (by cases BitVec.slt v 16384#32 <;> decide)
  have high : BitVec.slt v 16384#32 = true := by
    by_contra hn
    rw [Bool.not_eq_true] at hn
    rw [hn] at both
    exact absurd both (by cases BitVec.sle 0#32 v <;> decide)
  rw [BitVec.sle_iff_toInt_le] at low
  rw [BitVec.slt_iff_toInt_lt] at high
  have z : (0#32 : BitVec 32).toInt = 0 := by decide
  have k : (16384#32 : BitVec 32).toInt = 16384 := by decide
  rw [z] at low
  rw [k] at high
  rw [BitVec.toInt_eq_toNat_cond] at low high
  have := v.isLt
  split at low <;> omega

section Pre
variable [Cert.Pre_in_range_KernelIdeal.Facts]

theorem pre_acts {x w l} (h : (Cert.Pre_in_range_KernelIdeal.fn (F := Ideal) x w l).1 = fun _ => 1#1) (i) : (((x i : EReal).toReal : ℝ) : EReal) = x i :=
  real_of_below (congrFun h i)
theorem pre_mat {x w l} (h : (Cert.Pre_in_range_KernelIdeal.fn (F := Ideal) x w l).2.1 = fun _ => 1#1) (i) : (((w i : EReal).toReal : ℝ) : EReal) = w i :=
  real_of_below (congrFun h i)
theorem pre_labs {x w l} (h : (Cert.Pre_in_range_KernelIdeal.fn (F := Ideal) x w l).2.2 = fun _ => 1#1) (i) : (l i).toNat < 16384 :=
  column_of_between (congrFun h i)

end Pre

/-! ## The whole arrays -/

/-- The device whose half of the matrix holds column `k`. -/
def keeper (k : Fin 16384) : Dev Cert.KernelIdeal.nD := ⟨2 * (k.val / 8192), by show 2 * (k.val / 8192) < 8; omega⟩

theorem half_keeper (k : Fin 16384) : (half (keeper k)).val = k.val / 8192 := by
  show 2 * (k.val / 8192) / 2 % 2 = k.val / 8192
  omega

/-- Where a device's block of the matrix sits: the half of the columns its middle coordinate names. -/
theorem block_entry (c : Dev Cert.KernelIdeal.nD) (A : FVec Ideal ⟨2, ![1024, 16384]⟩ .bf16) (d : Fin 1024) (n : Fin 8192) (k : Fin 16384)
    (hk : k.val = (half c).val * 8192 + n.val) :
    Layout.blockN ⟨2, ![1024, 8192]⟩ ⟨2, ![1024, 16384]⟩ (Layout.meshBlock [2, 2, 2] ![[], [1]] c) A (by decide) (ix2 d n) = A (ix2 d k) := by
  rw [Layout.blockN_apply]
  refine congrArg A (funext fun a => Fin.ext ?_)
  match a with
  | ⟨0, _⟩ => show 0 * 1024 + d.val = d.val; omega
  | ⟨1, _⟩ =>
    show (c.val / 2 % 2 * 1 + 0) * 8192 + n.val = k.val
    have : (half c).val = c.val / 2 % 2 := rfl
    omega

section Whole
variable [Cert.Pre_in_range_KernelIdeal.Facts]
variable (m : (ℓ : Loc Cert.KernelIdeal.nD Cert.KernelIdeal.τ Cert.KernelIdeal.sig) → Buf (Elt Ideal) ℓ)
variable (x : FVec Ideal ⟨2, ![512, 1024]⟩ .bf16) (A : FVec Ideal ⟨2, ![1024, 16384]⟩ .bf16) (l : IVec ⟨1, ![512]⟩ 32)

/-- Device `c` holds its part of the whole arrays `x`, `A`, `l`, and the precondition says this of the part. -/
structure Part (c : Dev Cert.KernelIdeal.nD) : Prop where
  acts : m ((c : Thread Cert.KernelIdeal.nD Cert.KernelIdeal.τ).loc Cert.KernelIdeal.main_arg0) = x
  mat : m ((c : Thread Cert.KernelIdeal.nD Cert.KernelIdeal.τ).loc Cert.KernelIdeal.main_arg1)
    = Layout.blockN ⟨2, ![1024, 8192]⟩ ⟨2, ![1024, 16384]⟩ (Layout.meshBlock [2, 2, 2] ![[], [1]] c) A
  labs : m ((c : Thread Cert.KernelIdeal.nD Cert.KernelIdeal.τ).loc Cert.KernelIdeal.main_arg2) = l
  acts_real : ∀ i, (((x i : EReal).toReal : ℝ) : EReal) = x i
  mat_real : ∀ i, (((m ((c : Thread Cert.KernelIdeal.nD Cert.KernelIdeal.τ).loc Cert.KernelIdeal.main_arg1) i : EReal).toReal : ℝ) : EReal)
    = m ((c : Thread Cert.KernelIdeal.nD Cert.KernelIdeal.τ).loc Cert.KernelIdeal.main_arg1) i
  labs_low : ∀ i, (l i).toNat < 16384

variable {m x A l}

/-- Every entry of the whole matrix is a real number, because some device holds it. -/
theorem whole_real (h : ∀ c, Part m x A l c) (d : Fin 1024) (k : Fin 16384) : (((A (ix2 d k) : EReal).toReal : ℝ) : EReal) = A (ix2 d k) := by
  have hb := (h (keeper k)).mat_real (ix2 d (⟨k.val % 8192, by omega⟩ : Fin 8192))
  rw [(h (keeper k)).mat] at hb
  have he := block_entry (keeper k) A d ⟨k.val % 8192, by omega⟩ k (by rw [half_keeper]; show k.val = k.val / 8192 * 8192 + k.val % 8192; omega)
  rw [he] at hb
  exact hb

/-- THE EQUATION: every device's result is the reference's. -/
theorem results_agree (h : ∀ c, Part m x A l c) (c : Dev Cert.KernelIdeal.nD) :
    outAt m c = Cert.ReferenceIdeal.Read.val_main_v26 (F := Ideal) x A l := by
  let X : Fin 512 → Fin 1024 → ℝ := fun r d => (x (ix2 r d) : EReal).toReal
  let W : Fin 1024 → Fin 16384 → ℝ := fun d k => (A (ix2 d k) : EReal).toReal
  let lab : Fin 512 → Fin 16384 := fun r => ⟨(l (ix1 r)).toNat, (h c).labs_low _⟩
  have word : ∀ r : Fin 512, l (ix1 r) = BitVec.ofNat 32 (lab r).val := fun r => by simp [lab]
  have holds : ∀ e, Holds m X W lab e := fun e =>
    { acts := fun r d => (congrFun (h e).acts _).trans ((h e).acts_real _).symm
      mat := fun d q j => by
        rw [(h e).mat]
        exact (block_entry e A d _ (column (half e) q j) (by show (half e).val * 8192 + q.val * 2048 + j.val = (half e).val * 8192 + (q.val * 2048 + j.val); omega)).trans (whole_real h d _).symm
      labs := fun r => (congrFun (h e).labs _).trans (word r) }
  funext i
  obtain ⟨r, rfl⟩ : ∃ r : Fin 512, i = ix1 r := ⟨i 0, eq_ix1 i⟩
  rw [out_loss (holds c) (holds _) r]
  refine (Ref.result (X := X) (W := W) (lab := lab) (fun i => ?_) (fun i => ?_) (fun i => ?_) r).symm
  · conv_lhs => rw [eq_ix2 i]
    exact ((h c).acts_real _).symm
  · conv_lhs => rw [eq_ix2 i]
    exact (whole_real h _ _).symm
  · conv_lhs => rw [eq_ix1 i]
    exact word _

end Whole
end Cert.Xent

end
-- ==== Proof.lean ====
/-
# The claim, put together

* The kernel's run (Launch, Result) gives the frames: it never faults, its arguments are kept, every counter ends at zero.
  The idealized kernel has the kernel's own text, so one run serves both.
* The reference is straight-line code that names no counter.
* The equation (Equation) makes every device's result the reference's.
-/
module

public import proofs.«01_k».proof.Proof.Result
public import proofs.«01_k».proof.Proof.Equation
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

theorem kernel_pre_facts : Cert.Pre_in_range_KernelIdeal.Facts := ⟨by decide, by decide, by decide⟩
theorem reference_pre_facts : Cert.Pre_in_range_ReferenceIdeal.Facts := ⟨by decide, by decide, by decide⟩
attribute [local instance] kernel_pre_facts reference_pre_facts

attribute [local instance] Cert.Kernel.Gen.facts Cert.KernelIdeal.Gen.facts

/-- The kernel and the idealized kernel have the same bodies, -/
theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- so the same table of bodies and pipelines. -/
theorem same_table : Cert.Kernel.defs (F := Bits) = Cert.KernelIdeal.defs (F := Bits) := by
  unfold Cert.Kernel.defs Cert.KernelIdeal.defs
  exact congrArg (Pipeline.defs _) same_bodies

/-- The kernel's frame, on the machine's floats, -/
theorem frame_kernel : Cert.quiescent_Kernel := fun m ρ _ => by
  rw [same_table]
  exact Cert.Xent.run_frame (F := Bits) m ρ

/-- over the extended reals, -/
theorem frame_ideal : Cert.quiescent_KernelIdeal := fun m ρ _ => Cert.Xent.run_frame (F := Ideal) m ρ

/-- and the reference's. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, from memories holding the same arrays. -/
theorem equation : Cert.algebraic_KernelIdeal_ReferenceIdeal_pre_in_range_KernelIdeal := fun m ρ m' ρ' pre same => by
  have parts : ∀ c, Cert.Xent.Part m _ _ _ c := fun c =>
    { acts := (same c).1
      mat := (same c).2.1
      labs := (same c).2.2
      acts_real := fun i => (same c).1 ▸ Cert.Xent.pre_acts (pre c).1 i
      mat_real := fun i => Cert.Xent.pre_mat (pre c).2.1 i
      labs_low := fun i => (same c).2.2 ▸ Cert.Xent.pre_labs (pre c).2.2 i }
  refine ⟨_, (θ_run Cert.KernelIdeal.defs _ _).mono (fun _ h c => ⟨(h.1 c).1.trans (Cert.Xent.results_agree parts c), (h.1 c).2⟩) (Cert.Xent.run_read (F := Ideal) m ρ), ?_⟩
  exact (θ_run Cert.ReferenceIdeal.defs _ _).mono (fun _ h => ⟨(h 0).1.trans (Cert.ReferenceIdeal.Read.val_main_v26_eq _ _ _), (h 0).2⟩)
    (Cert.ReferenceIdeal.Value.run (F := Ideal) m' ρ')

theorem claim : Cert.Claim :=
  ⟨Cert.Kernel.Gen.facts, Cert.KernelIdeal.Gen.facts, Cert.ReferenceIdeal.Gen.facts, kernel_pre_facts, reference_pre_facts,
    frame_kernel, frame_ideal, fun m ρ _ => frame_ideal m ρ trivial, frame_reference, fun m ρ _ => frame_reference m ρ trivial,
    trivial, equation⟩

end Cert.Proof

end
